-- ==== Defs.lean ====
def Pre_Kernel [hPre_offsets_in_range : Cert.Pre_offsets_in_range.Facts] (m : (ℓ : Loc Cert.Kernel.nD Cert.Kernel.τ Cert.Kernel.sig) → Buf (Elt Bits) ℓ) : Prop :=
  ∀ c : Dev Cert.Kernel.nD,
    (Cert.Pre_offsets_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_offsets_in_range : Cert.Pre_offsets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2 = (fun _ => 1#1)

def quiescent_Kernel [hKernel : Cert.Kernel.Facts] [hPre_offsets_in_range : Cert.Pre_offsets_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_offsets_in_range : Cert.Pre_offsets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mask" .f32 0xC2200000#32 ⊥

def algebraic_KernelIdeal_ReferenceIdeal_on_nonempty_pre_inputs_ok [hKernelIdeal : Cert.KernelIdeal.Facts] [hReferenceIdeal : Cert.ReferenceIdeal.Facts] [hPre_inputs_ok : Cert.Pre_inputs_ok.Facts] [hOn_nonempty : Cert.On_nonempty.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![16, 512, 6]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 i = 1#1 → r.2.mem ((c.tc : Thread Cert.KernelIdeal.nD Cert.KernelIdeal.τ).loc Cert.KernelIdeal.main_v0_0) i = v0 c i)
          ∧ (∀ i : (⟨3, ![16, 512, 18]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 i = 1#1 → r.2.mem ((c.tc : Thread Cert.KernelIdeal.nD Cert.KernelIdeal.τ).loc Cert.KernelIdeal.main_v0_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![16, 512, 6]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 i = 1#1 → r.2.mem ((c.tc : Thread Cert.ReferenceIdeal.nD Cert.ReferenceIdeal.τ).loc Cert.ReferenceIdeal.main_v112) i = v0 c i)
          ∧ (∀ i : (⟨3, ![16, 512, 18]⟩ : Shape).Idx, (Cert.On_nonempty.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 i = 1#1 → r.2.mem ((c.tc : Thread Cert.ReferenceIdeal.nD Cert.ReferenceIdeal.τ).loc Cert.ReferenceIdeal.main_v116) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_offsets_in_range : Cert.Pre_offsets_in_range.Facts) (hPre_inputs_ok : Cert.Pre_inputs_ok.Facts) (hOn_nonempty : Cert.On_nonempty.Facts),
    quiescent_Kernel (hKernel := hKernel) (hPre_offsets_in_range := hPre_offsets_in_range)
    ∧ quiescent_KernelIdeal (hKernelIdeal := hKernelIdeal) (hPre_offsets_in_range := hPre_offsets_in_range)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_on_nonempty_pre_inputs_ok (hKernelIdeal := hKernelIdeal) (hReferenceIdeal := hReferenceIdeal) (hPre_inputs_ok := hPre_inputs_ok) (hOn_nonempty := hOn_nonempty)
-- ==== On_nonempty.lean ====
abbrev S4096x256 : Shape := ⟨2, ![4096, 256]⟩
abbrev S4096x3 : Shape := ⟨2, ![4096, 3]⟩
abbrev S4096 : Shape := ⟨1, ![4096]⟩
abbrev S17 : Shape := ⟨1, ![17]⟩
abbrev S256x256 : Shape := ⟨2, ![256, 256]⟩
abbrev S256 : Shape := ⟨1, ![256]⟩
abbrev S3x256 : Shape := ⟨2, ![3, 256]⟩
abbrev S256x18 : Shape := ⟨2, ![256, 18]⟩
abbrev S18 : Shape := ⟨1, ![18]⟩
abbrev S256x6 : Shape := ⟨2, ![256, 6]⟩
abbrev S6 : Shape := ⟨1, ![6]⟩
abbrev S16 : Shape := ⟨1, ![16]⟩
abbrev S16x1x1 : Shape := ⟨3, ![16, 1, 1]⟩
abbrev S16x512x6 : Shape := ⟨3, ![16, 512, 6]⟩
abbrev S16x512x18 : Shape := ⟨3, ![16, 512, 18]⟩

class Facts : Prop where
  slices_S17_S16_0 : S17.Slices ![0] S16
  slices_S17_S16_1 : S17.Slices ![1] S16
  bcast_S16_S16x1x1_0 : S16.BroadcastsInDim S16x1x1 (![0] : Fin 1 → Fin S16x1x1.rank)
  bcast_S16x1x1_S16x512x6_0_1_2 : S16x1x1.BroadcastsInDim S16x512x6 (![0, 1, 2] : Fin 3 → Fin S16x512x6.rank)
  bcast_S16x1x1_S16x512x18_0_1_2 : S16x1x1.BroadcastsInDim S16x512x18 (![0, 1, 2] : Fin 3 → Fin S16x512x18.rank)

variable [Facts]

def fn {F : FTy → Type} [FloatOps F] (main_arg0 : FVec F S4096x256 .f32) (main_arg1 : FVec F S4096x3 .f32) (main_arg2 : IVec S4096 32) (main_arg3 : IVec S17 32) (main_arg4 : FVec F S256x256 .f32) (main_arg5 : FVec F S256 .f32) (main_arg6 : FVec F S3x256 .f32) (main_arg7 : FVec F S256 .f32) (main_arg8 : FVec F S256x256 .f32) (main_arg9 : FVec F S256x256 .f32) (main_arg10 : FVec F S256x256 .f32) (main_arg11 : FVec F S256x256 .f32) (main_arg12 : FVec F S256x18 .f32) (main_arg13 : FVec F S18 .f32) (main_arg14 : FVec F S256x6 .f32) (main_arg15 : FVec F S6 .f32) : IVec S16x512x6 1 × IVec S16x512x18 1 :=
  let main_v0 : IVec S16 32 := (extractStridedSlice S16 ![0] · slices_S17_S16_0) main_arg3
  let main_v1 : IVec S16 32 := (extractStridedSlice S16 ![1] · slices_S17_S16_1) main_arg3
  let main_v2 : IVec S16 1 := cmpi .slt main_v0 main_v1
  let main_v3 : IVec S16x1x1 1 := broadcastInDim S16x1x1 ![0] bcast_S16_S16x1x1_0 main_v2
  let main_v4 : IVec S16x512x6 1 := broadcastInDim S16x512x6 ![0, 1, 2] bcast_S16x1x1_S16x512x6_0_1_2 main_v3
  let main_v5 : IVec S16x512x18 1 := broadcastInDim S16x512x18 ![0, 1, 2] bcast_S16x1x1_S16x512x18_0_1_2 main_v3
  (main_v4, main_v5)
-- ==== Pre_inputs_ok.lean ====
abbrev S4096x256 : Shape := ⟨2, ![4096, 256]⟩
abbrev S4096x3 : Shape := ⟨2, ![4096, 3]⟩
abbrev S4096 : Shape := ⟨1, ![4096]⟩
abbrev S17 : Shape := ⟨1, ![17]⟩
abbrev S256x256 : Shape := ⟨2, ![256, 256]⟩
abbrev S256 : Shape := ⟨1, ![256]⟩
abbrev S3x256 : Shape := ⟨2, ![3, 256]⟩
abbrev S256x18 : Shape := ⟨2, ![256, 18]⟩
abbrev S18 : Shape := ⟨1, ![18]⟩
abbrev S256x6 : Shape := ⟨2, ![256, 6]⟩
abbrev S6 : Shape := ⟨1, ![6]⟩
abbrev S1 : Shape := ⟨1, ![1]⟩
abbrev S_ : Shape := ⟨0, ![]⟩
abbrev S16 : Shape := ⟨1, ![16]⟩

class Facts : Prop where
  slices_S17_S1_0 : S17.Slices ![0] S1
  bcast_S_S1 : S_.BroadcastsInDim S1 (![] : Fin 0 → Fin S1.rank)
  slices_S17_S1_16 : S17.Slices ![16] S1
  slices_S17_S16_0 : S17.Slices ![0] S16
  slices_S17_S16_1 : S17.Slices ![1] S16
  bcast_S_S4096 : S_.BroadcastsInDim S4096 (![] : Fin 0 → Fin S4096.rank)
  bcast_S_S4096x256 : S_.BroadcastsInDim S4096x256 (![] : Fin 0 → Fin S4096x256.rank)
  bcast_S_S4096x3 : S_.BroadcastsInDim S4096x3 (![] : Fin 0 → Fin S4096x3.rank)
  bcast_S_S256x256 : S_.BroadcastsInDim S256x256 (![] : Fin 0 → Fin S256x256.rank)
  bcast_S_S256 : S_.BroadcastsInDim S256 (![] : Fin 0 → Fin S256.rank)
  bcast_S_S3x256 : S_.BroadcastsInDim S3x256 (![] : Fin 0 → Fin S3x256.rank)

variable [Facts]

def fn_part1 {F : FTy → Type} [FloatOps F] (main_arg5 : FVec F S256 .f32) (main_arg6 : FVec F S3x256 .f32) (main_arg7 : FVec F S256 .f32) (main_arg8 : FVec F S256x256 .f32) (main_arg9 : FVec F S256x256 .f32) (main_v2 : IVec S1 1) (main_v5 : IVec S1 1) (main_v8 : IVec S16 1) (main_v10 : IVec S4096 1) (main_v13 : IVec S4096x256 1) (main_v16 : IVec S4096x3 1) (main_v17 : FVec F S256x256 .f32) (main_cst_3 : FVec F S_ .f32) : IVec S1 1 × IVec S1 1 × IVec S16 1 × IVec S4096 1 × IVec S4096x256 1 × IVec S4096x3 1 × IVec S256x256 1 × IVec S256 1 × IVec S3x256 1 × IVec S256 1 × IVec S256x256 1 × IVec S256x256 1 :=
  let main_v18 : FVec F S256x256 .f32 := broadcastInDim S256x256 ![] bcast_S_S256x256 main_cst_3
  let main_v19 : IVec S256x256 1 := cmpf .olt main_v17 main_v18
  let main_v20 : FVec F S256 .f32 := Host.absf main_arg5
  let main_cst_4 : FVec F S_ .f32 := constant S_ .f32 0x7F800000#32
  let main_v21 : FVec F S256 .f32 := broadcastInDim S256 ![] bcast_S_S256 main_cst_4
  let main_v22 : IVec S256 1 := cmpf .olt main_v20 main_v21
  let main_v23 : FVec F S3x256 .f32 := Host.absf main_arg6
  let main_cst_5 : FVec F S_ .f32 := constant S_ .f32 0x7F800000#32
  let main_v24 : FVec F S3x256 .f32 := broadcastInDim S3x256 ![] bcast_S_S3x256 main_cst_5
  let main_v25 : IVec S3x256 1 := cmpf .olt main_v23 main_v24
  let main_v26 : FVec F S256 .f32 := Host.absf main_arg7
  let main_cst_6 : FVec F S_ .f32 := constant S_ .f32 0x7F800000#32
  let main_v27 : FVec F S256 .f32 := broadcastInDim S256 ![] bcast_S_S256 main_cst_6
  let main_v28 : IVec S256 1 := cmpf .olt main_v26 main_v27
  let main_v29 : FVec F S256x256 .f32 := Host.absf main_arg8
  let main_cst_7 : FVec F S_ .f32 := constant S_ .f32 0x7F800000#32
  let main_v30 : FVec F S256x256 .f32 := broadcastInDim S256x256 ![] bcast_S_S256x256 main_cst_7
  let main_v31 : IVec S256x256 1 := cmpf .olt main_v29 main_v30
  let main_v32 : FVec F S256x256 .f32 := Host.absf main_arg9
  let main_cst_8 : FVec F S_ .f32 := constant S_ .f32 0x7F800000#32
  let main_v33 : FVec F S256x256 .f32 := broadcastInDim S256x256 ![] bcast_S_S256x256 main_cst_8
  let main_v34 : IVec S256x256 1 := cmpf .olt main_v32 main_v33
  (main_v2, main_v5, main_v8, main_v10, main_v13, main_v16, main_v19, main_v22, main_v25, main_v28, main_v31, main_v34)

def fn {F : FTy → Type} [FloatOps F] (main_arg0 : FVec F S4096x256 .f32) (main_arg1 : FVec F S4096x3 .f32) (main_arg2 : IVec S4096 32) (main_arg3 : IVec S17 32) (main_arg4 : FVec F S256x256 .f32) (main_arg5 : FVec F S256 .f32) (main_arg6 : FVec F S3x256 .f32) (main_arg7 : FVec F S256 .f32) (main_arg8 : FVec F S256x256 .f32) (main_arg9 : FVec F S256x256 .f32) (main_arg10 : FVec F S256x256 .f32) (main_arg11 : FVec F S256x256 .f32) (main_arg12 : FVec F S256x18 .f32) (main_arg13 : FVec F S18 .f32) (main_arg14 : FVec F S256x6 .f32) (main_arg15 : FVec F S6 .f32) : IVec S1 1 × IVec S1 1 × IVec S16 1 × IVec S4096 1 × IVec S4096x256 1 × IVec S4096x3 1 × IVec S256x256 1 × IVec S256 1 × IVec S3x256 1 × IVec S256 1 × IVec S256x256 1 × IVec S256x256 1 :=
  let main_v0 : IVec S1 32 := (extractStridedSlice S1 ![0] · slices_S17_S1_0) main_arg3
  let main_c : IVec S_ 32 := constantI S_ 32 0#32
  let main_v1 : IVec S1 32 := broadcastInDim S1 ![] bcast_S_S1 main_c
  let main_v2 : IVec S1 1 := cmpi .sge main_v0 main_v1
  let main_v3 : IVec S1 32 := (extractStridedSlice S1 ![16] · slices_S17_S1_16) main_arg3
  let main_c_0 : IVec S_ 32 := constantI S_ 32 4096#32
  let main_v4 : IVec S1 32 := broadcastInDim S1 ![] bcast_S_S1 main_c_0
  let main_v5 : IVec S1 1 := cmpi .eq main_v3 main_v4
  let main_v6 : IVec S16 32 := (extractStridedSlice S16 ![0] · slices_S17_S16_0) main_arg3
  let main_v7 : IVec S16 32 := (extractStridedSlice S16 ![1] · slices_S17_S16_1) main_arg3
  let main_v8 : IVec S16 1 := cmpi .sle main_v6 main_v7
  let main_c_1 : IVec S_ 32 := constantI S_ 32 0#32
  let main_v9 : IVec S4096 32 := broadcastInDim S4096 ![] bcast_S_S4096 main_c_1
  let main_v10 : IVec S4096 1 := cmpi .ne main_arg2 main_v9
  let main_v11 : FVec F S4096x256 .f32 := Host.absf main_arg0
  let main_cst : FVec F S_ .f32 := constant S_ .f32 0x7F800000#32
  let main_v12 : FVec F S4096x256 .f32 := broadcastInDim S4096x256 ![] bcast_S_S4096x256 main_cst
  let main_v13 : IVec S4096x256 1 := cmpf .olt main_v11 main_v12
  let main_v14 : FVec F S4096x3 .f32 := Host.absf main_arg1
  let main_cst_2 : FVec F S_ .f32 := constant S_ .f32 0x7F800000#32
  let main_v15 : FVec F S4096x3 .f32 := broadcastInDim S4096x3 ![] bcast_S_S4096x3 main_cst_2
  let main_v16 : IVec S4096x3 1 := cmpf .olt main_v14 main_v15
  let main_v17 : FVec F S256x256 .f32 := Host.absf main_arg4
  let main_cst_3 : FVec F S_ .f32 := constant S_ .f32 0x7F800000#32
  fn_part1 (F := F) main_arg5 main_arg6 main_arg7 main_arg8 main_arg9 main_v2 main_v5 main_v8 main_v10 main_v13 main_v16 main_v17 main_cst_3
-- ==== Pre_offsets_in_range.lean ====
abbrev S4096x256 : Shape := ⟨2, ![4096, 256]⟩
abbrev S4096x3 : Shape := ⟨2, ![4096, 3]⟩
abbrev S4096 : Shape := ⟨1, ![4096]⟩
abbrev S17 : Shape := ⟨1, ![17]⟩
abbrev S256x256 : Shape := ⟨2, ![256, 256]⟩
abbrev S256 : Shape := ⟨1, ![256]⟩
abbrev S3x256 : Shape := ⟨2, ![3, 256]⟩
abbrev S256x18 : Shape := ⟨2, ![256, 18]⟩
abbrev S18 : Shape := ⟨1, ![18]⟩
abbrev S256x6 : Shape := ⟨2, ![256, 6]⟩
abbrev S6 : Shape := ⟨1, ![6]⟩
abbrev S_ : Shape := ⟨0, ![]⟩

class Facts : Prop where
  bcast_S_S17 : S_.BroadcastsInDim S17 (![] : Fin 0 → Fin S17.rank)

variable [Facts]

def fn {F : FTy → Type} [FloatOps F] (main_arg0 : FVec F S4096x256 .f32) (main_arg1 : FVec F S4096x3 .f32) (main_arg2 : IVec S4096 32) (main_arg3 : IVec S17 32) (main_arg4 : FVec F S256x256 .f32) (main_arg5 : FVec F S256 .f32) (main_arg6 : FVec F S3x256 .f32) (main_arg7 : FVec F S256 .f32) (main_arg8 : FVec F S256x256 .f32) (main_arg9 : FVec F S256x256 .f32) (main_arg10 : FVec F S256x256 .f32) (main_arg11 : FVec F S256x256 .f32) (main_arg12 : FVec F S256x18 .f32) (main_arg13 : FVec F S18 .f32) (main_arg14 : FVec F S256x6 .f32) (main_arg15 : FVec F S6 .f32) : IVec S17 1 :=
  let main_c : IVec S_ 32 := constantI S_ 32 0#32
  let main_v0 : IVec S17 32 := broadcastInDim S17 ![] bcast_S_S17 main_c
  let main_v1 : IVec S17 1 := cmpi .sge main_arg3 main_v0
  let main_c_0 : IVec S_ 32 := constantI S_ 32 4096#32
  let main_v2 : IVec S17 32 := broadcastInDim S17 ![] bcast_S_S17 main_c_0
  let main_v3 : IVec S17 1 := cmpi .sle main_arg3 main_v2
  let main_v4 : IVec S17 1 := andi main_v1 main_v3
  main_v4
-- ==== Kernel.lean ====
abbrev S4096x256 : Shape := ⟨2, ![4096, 256]⟩
abbrev S4096x3 : Shape := ⟨2, ![4096, 3]⟩
abbrev S4096 : Shape := ⟨1, ![4096]⟩
abbrev S17 : Shape := ⟨1, ![17]⟩
abbrev S256x256 : Shape := ⟨2, ![256, 256]⟩
abbrev S256 : Shape := ⟨1, ![256]⟩
abbrev S3x256 : Shape := ⟨2, ![3, 256]⟩
abbrev S256x18 : Shape := ⟨2, ![256, 18]⟩
abbrev S18 : Shape := ⟨1, ![18]⟩
abbrev S256x6 : Shape := ⟨2, ![256, 6]⟩
abbrev S6 : Shape := ⟨1, ![6]⟩
abbrev S16x512x6 : Shape := ⟨3, ![16, 512, 6]⟩
abbrev S16x512x18 : Shape := ⟨3, ![16, 512, 18]⟩
abbrev S1x512x6 : Shape := ⟨3, ![1, 512, 6]⟩
abbrev S1x512x18 : Shape := ⟨3, ![1, 512, 18]⟩
abbrev S1 : Shape := ⟨1, ![1]⟩
abbrev S520x256 : Shape := ⟨2, ![520, 256]⟩
abbrev S520x3 : Shape := ⟨2, ![520, 3]⟩
abbrev S1x256 : Shape := ⟨2, ![1, 256]⟩
abbrev S512x256 : Shape := ⟨2, ![512, 256]⟩
abbrev S512x1 : Shape := ⟨2, ![512, 1]⟩
abbrev S8x1 : Shape := ⟨2, ![8, 1]⟩
abbrev S8x256 : Shape := ⟨2, ![8, 256]⟩
abbrev S8x3 : Shape := ⟨2, ![8, 3]⟩
abbrev S512x64 : Shape := ⟨2, ![512, 64]⟩
abbrev S512x65 : Shape := ⟨2, ![512, 65]⟩
abbrev S512x512 : Shape := ⟨2, ![512, 512]⟩
abbrev S512x6 : Shape := ⟨2, ![512, 6]⟩
abbrev S1x6 : Shape := ⟨2, ![1, 6]⟩
abbrev S512x18 : Shape := ⟨2, ![512, 18]⟩
abbrev S1x18 : Shape := ⟨2, ![1, 18]⟩

abbrev nBuf : Space → Nat
  | .hbm => 18
  | .vmem => 18
  | .smem => 1
  | _ => 0

abbrev bufTy : (tb : Table) → Fin (tcTables nBuf tb) → BufTy
  | .hbm, ⟨0, _⟩ => ⟨S4096x256, .f32⟩
  | .hbm, ⟨1, _⟩ => ⟨S4096x3, .f32⟩
  | .hbm, ⟨2, _⟩ => ⟨S4096, .i32⟩
  | .hbm, ⟨3, _⟩ => ⟨S17, .i32⟩
  | .hbm, ⟨4, _⟩ => ⟨S256x256, .f32⟩
  | .hbm, ⟨5, _⟩ => ⟨S256, .f32⟩
  | .hbm, ⟨6, _⟩ => ⟨S3x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x18, .f32⟩
  | .hbm, ⟨13, _⟩ => ⟨S18, .f32⟩
  | .hbm, ⟨14, _⟩ => ⟨S256x6, .f32⟩
  | .hbm, ⟨15, _⟩ => ⟨S6, .f32⟩
  | .hbm, ⟨16, _⟩ => ⟨S16x512x6, .f32⟩
  | .hbm, ⟨17, _⟩ => ⟨S16x512x18, .f32⟩
  | .local _ .vmem, ⟨0, _⟩ => ⟨S4096x256, .f32⟩
  | .local _ .vmem, ⟨1, _⟩ => ⟨S4096x3, .f32⟩
  | .local _ .vmem, ⟨2, _⟩ => ⟨S256x256, .f32⟩
  | .local _ .vmem, ⟨3, _⟩ => ⟨S256, .f32⟩
  | .local _ .vmem, ⟨4, _⟩ => ⟨S3x256, .f32⟩
  | .local _ .vmem, ⟨5, _⟩ => ⟨S256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x18, .f32⟩
  | .local _ .vmem, ⟨11, _⟩ => ⟨S18, .f32⟩
  | .local _ .vmem, ⟨12, _⟩ => ⟨S256x6, .f32⟩
  | .local _ .vmem, ⟨13, _⟩ => ⟨S6, .f32⟩
  | .local _ .vmem, ⟨14, _⟩ => ⟨S1x512x6, .f32⟩
  | .local _ .vmem, ⟨15, _⟩ => ⟨S1x512x6, .f32⟩
  | .local _ .vmem, ⟨16, _⟩ => ⟨S1x512x18, .f32⟩
  | .local _ .vmem, ⟨17, _⟩ => ⟨S1x512x18, .f32⟩
  | .local _ .smem, ⟨0, _⟩ => ⟨S17, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg15_1 : Ref sig .tc := ⟨.vmem, 15, rfl⟩
abbrev cc0_stg16_0 : Ref sig .tc := ⟨.vmem, 16, rfl⟩
abbrev cc0_stg16_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem15_1 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.addi arg0 c1_i32
  let v3 : Index := Scalar.indexCast v2
  ![v3.toNat]
def k0_mult1 (v1 : BitVec 32) : BitVec 32 :=
  let c0_i32 : BitVec 32 := 0#32
  let v8 : BitVec 1 := Scalar.cmpi .sgt v1 c0_i32
  let v9 : BitVec 32 := Scalar.extui v8
  let c0_i32_0 : BitVec 32 := 0#32
  let v10 : BitVec 1 := Scalar.cmpi .slt v1 c0_i32_0
  let v11 : BitVec 32 := Scalar.extui v10
  let v12 : BitVec 32 := Scalar.subi v9 v11
  let c8_i32 : BitVec 32 := 8#32
  let c0_i32_1 : BitVec 32 := 0#32
  let v13 : BitVec 1 := Scalar.cmpi .sgt c8_i32 c0_i32_1
  let v14 : BitVec 32 := Scalar.extui v13
  let c0_i32_2 : BitVec 32 := 0#32
  let v15 : BitVec 1 := Scalar.cmpi .slt c8_i32 c0_i32_2
  let v16 : BitVec 32 := Scalar.extui v15
  let v17 : BitVec 32 := Scalar.subi v14 v16
  let v18 : BitVec 1 := Scalar.cmpi .ne v12 v17
  let v19 : BitVec 32 := Scalar.remsi v1 c8_i32
  let c0_i32_3 : BitVec 32 := 0#32
  let v20 : BitVec 1 := Scalar.cmpi .ne v19 c0_i32_3
  let v21 : BitVec 1 := Scalar.andi v18 v20
  let v7 : BitVec 32 := Scalar.divsi v1 c8_i32
  let c1_i32_4 : BitVec 32 := 1#32
  let v22 : BitVec 32 := Scalar.subi v7 c1_i32_4
  let v23 : BitVec 32 := Scalar.select v21 v22 v7
  let c8_i32_5 : BitVec 32 := 8#32
  let v24 : BitVec 32 := Scalar.muli v23 c8_i32_5
  let c3576_i32 : BitVec 32 := 3576#32
  let v25 : BitVec 32 := Scalar.minsi v24 c3576_i32
  v25

def k0_off3 (v1 : BitVec 32) : Fin 2 → Nat :=
  let c0_i32 : BitVec 32 := 0#32
  let v8 : BitVec 1 := Scalar.cmpi .sgt v1 c0_i32
  let v9 : BitVec 32 := Scalar.extui v8
  let c0_i32_0 : BitVec 32 := 0#32
  let v10 : BitVec 1 := Scalar.cmpi .slt v1 c0_i32_0
  let v11 : BitVec 32 := Scalar.extui v10
  let v12 : BitVec 32 := Scalar.subi v9 v11
  let c8_i32 : BitVec 32 := 8#32
  let c0_i32_1 : BitVec 32 := 0#32
  let v13 : BitVec 1 := Scalar.cmpi .sgt c8_i32 c0_i32_1
  let v14 : BitVec 32 := Scalar.extui v13
  let c0_i32_2 : BitVec 32 := 0#32
  let v15 : BitVec 1 := Scalar.cmpi .slt c8_i32 c0_i32_2
  let v16 : BitVec 32 := Scalar.extui v15
  let v17 : BitVec 32 := Scalar.subi v14 v16
  let v18 : BitVec 1 := Scalar.cmpi .ne v12 v17
  let v19 : BitVec 32 := Scalar.remsi v1 c8_i32
  let c0_i32_3 : BitVec 32 := 0#32
  let v20 : BitVec 1 := Scalar.cmpi .ne v19 c0_i32_3
  let v21 : BitVec 1 := Scalar.andi v18 v20
  let v7 : BitVec 32 := Scalar.divsi v1 c8_i32
  let c1_i32_4 : BitVec 32 := 1#32
  let v22 : BitVec 32 := Scalar.subi v7 c1_i32_4
  let v23 : BitVec 32 := Scalar.select v21 v22 v7
  let c8_i32_5 : BitVec 32 := 8#32
  let v24 : BitVec 32 := Scalar.muli v23 c8_i32_5
  let c3576_i32 : BitVec 32 := 3576#32
  let v25 : BitVec 32 := Scalar.minsi v24 c3576_i32
  let v26 : BitVec 32 := v25
  let v28 : Index := Scalar.indexCast v26
  let c0_6 : Index := 0#32
  ![v28.toNat, 0]
def k0_off4 (v1 : BitVec 32) : Fin 2 → Nat :=
  let c0_i32 : BitVec 32 := 0#32
  let v8 : BitVec 1 := Scalar.cmpi .sgt v1 c0_i32
  let v9 : BitVec 32 := Scalar.extui v8
  let c0_i32_0 : BitVec 32 := 0#32
  let v10 : BitVec 1 := Scalar.cmpi .slt v1 c0_i32_0
  let v11 : BitVec 32 := Scalar.extui v10
  let v12 : BitVec 32 := Scalar.subi v9 v11
  let c8_i32 : BitVec 32 := 8#32
  let c0_i32_1 : BitVec 32 := 0#32
  let v13 : BitVec 1 := Scalar.cmpi .sgt c8_i32 c0_i32_1
  let v14 : BitVec 32 := Scalar.extui v13
  let c0_i32_2 : BitVec 32 := 0#32
  let v15 : BitVec 1 := Scalar.cmpi .slt c8_i32 c0_i32_2
  let v16 : BitVec 32 := Scalar.extui v15
  let v17 : BitVec 32 := Scalar.subi v14 v16
  let v18 : BitVec 1 := Scalar.cmpi .ne v12 v17
  let v19 : BitVec 32 := Scalar.remsi v1 c8_i32
  let c0_i32_3 : BitVec 32 := 0#32
  let v20 : BitVec 1 := Scalar.cmpi .ne v19 c0_i32_3
  let v21 : BitVec 1 := Scalar.andi v18 v20
  let v7 : BitVec 32 := Scalar.divsi v1 c8_i32
  let c1_i32_4 : BitVec 32 := 1#32
  let v22 : BitVec 32 := Scalar.subi v7 c1_i32_4
  let v23 : BitVec 32 := Scalar.select v21 v22 v7
  let c8_i32_5 : BitVec 32 := 8#32
  let v24 : BitVec 32 := Scalar.muli v23 c8_i32_5
  let c3576_i32 : BitVec 32 := 3576#32
  let v25 : BitVec 32 := Scalar.minsi v24 c3576_i32
  let v26 : BitVec 32 := v25
  let v30 : Index := Scalar.indexCast v26
  let c0_7 : Index := 0#32
  ![v30.toNat, 0]

def k0_chk1 (v1 : BitVec 32) : Prop :=
  (8 ∣ (k0_mult1 v1).toNat) ∧
  (∀ a, (k0_off3 v1) a + S520x256.size a ≤ S4096x256.size a) ∧
  (∀ a, (k0_off4 v1) a + S520x3.size a ≤ S4096x3.size a)
theorem k0_mult1_dvd : ∀ (v1 : BitVec 32) (k0_hw1 : k0_chk1 v1), 8 ∣ (k0_mult1 v1).toNat := fun v1 k0_hw1 => k0_hw1.1
theorem k0_off3_inb : ∀ (v1 : BitVec 32) (k0_hw1 : k0_chk1 v1), ∀ a, (k0_off3 v1) a + S520x256.size a ≤ S4096x256.size a := fun v1 k0_hw1 => k0_hw1.2.1
theorem k0_off4_inb : ∀ (v1 : BitVec 32) (k0_hw1 : k0_chk1 v1), ∀ a, (k0_off4 v1) a + S520x3.size a ≤ S4096x3.size a := fun v1 k0_hw1 => k0_hw1.2.2

def k0_mult2 (v4 : BitVec 32) : BitVec 32 :=
  let c1_i32_15 : BitVec 32 := 1#32
  let v53 : BitVec 32 := Scalar.subi v4 c1_i32_15
  let c0_i32_16 : BitVec 32 := 0#32
  let v54 : BitVec 32 := Scalar.maxsi v53 c0_i32_16
  let c0_i32_18 : BitVec 32 := 0#32
  let v56 : BitVec 1 := Scalar.cmpi .sgt v54 c0_i32_18
  let v57 : BitVec 32 := Scalar.extui v56
  let c0_i32_19 : BitVec 32 := 0#32
  let v58 : BitVec 1 := Scalar.cmpi .slt v54 c0_i32_19
  let v59 : BitVec 32 := Scalar.extui v58
  let v60 : BitVec 32 := Scalar.subi v57 v59
  let c8_i32_17 : BitVec 32 := 8#32
  let c0_i32_20 : BitVec 32 := 0#32
  let v61 : BitVec 1 := Scalar.cmpi .sgt c8_i32_17 c0_i32_20
  let v62 : BitVec 32 := Scalar.extui v61
  let c0_i32_21 : BitVec 32 := 0#32
  let v63 : BitVec 1 := Scalar.cmpi .slt c8_i32_17 c0_i32_21
  let v64 : BitVec 32 := Scalar.extui v63
  let v65 : BitVec 32 := Scalar.subi v62 v64
  let v66 : BitVec 1 := Scalar.cmpi .ne v60 v65
  let v67 : BitVec 32 := Scalar.remsi v54 c8_i32_17
  let c0_i32_22 : BitVec 32 := 0#32
  let v68 : BitVec 1 := Scalar.cmpi .ne v67 c0_i32_22
  let v69 : BitVec 1 := Scalar.andi v66 v68
  let v55 : BitVec 32 := Scalar.divsi v54 c8_i32_17
  let c1_i32_23 : BitVec 32 := 1#32
  let v70 : BitVec 32 := Scalar.subi v55 c1_i32_23
  let v71 : BitVec 32 := Scalar.select v69 v70 v55
  let c8_i32_24 : BitVec 32 := 8#32
  let v72 : BitVec 32 := Scalar.muli v71 c8_i32_24
  v72

def k0_off5 (v4 : BitVec 32) : Fin 2 → Nat :=
  let c1_i32_15 : BitVec 32 := 1#32
  let v53 : BitVec 32 := Scalar.subi v4 c1_i32_15
  let c0_i32_16 : BitVec 32 := 0#32
  let v54 : BitVec 32 := Scalar.maxsi v53 c0_i32_16
  let c0_i32_18 : BitVec 32 := 0#32
  let v56 : BitVec 1 := Scalar.cmpi .sgt v54 c0_i32_18
  let v57 : BitVec 32 := Scalar.extui v56
  let c0_i32_19 : BitVec 32 := 0#32
  let v58 : BitVec 1 := Scalar.cmpi .slt v54 c0_i32_19
  let v59 : BitVec 32 := Scalar.extui v58
  let v60 : BitVec 32 := Scalar.subi v57 v59
  let c8_i32_17 : BitVec 32 := 8#32
  let c0_i32_20 : BitVec 32 := 0#32
  let v61 : BitVec 1 := Scalar.cmpi .sgt c8_i32_17 c0_i32_20
  let v62 : BitVec 32 := Scalar.extui v61
  let c0_i32_21 : BitVec 32 := 0#32
  let v63 : BitVec 1 := Scalar.cmpi .slt c8_i32_17 c0_i32_21
  let v64 : BitVec 32 := Scalar.extui v63
  let v65 : BitVec 32 := Scalar.subi v62 v64
  let v66 : BitVec 1 := Scalar.cmpi .ne v60 v65
  let v67 : BitVec 32 := Scalar.remsi v54 c8_i32_17
  let c0_i32_22 : BitVec 32 := 0#32
  let v68 : BitVec 1 := Scalar.cmpi .ne v67 c0_i32_22
  let v69 : BitVec 1 := Scalar.andi v66 v68
  let v55 : BitVec 32 := Scalar.divsi v54 c8_i32_17
  let c1_i32_23 : BitVec 32 := 1#32
  let v70 : BitVec 32 := Scalar.subi v55 c1_i32_23
  let v71 : BitVec 32 := Scalar.select v69 v70 v55
  let c8_i32_24 : BitVec 32 := 8#32
  let v72 : BitVec 32 := Scalar.muli v71 c8_i32_24
  let v73 : BitVec 32 := v72
  let v78 : Index := Scalar.indexCast v73
  let c0_25 : Index := 0#32
  ![v78.toNat, 0]
def k0_off6 (v4 : BitVec 32) : Fin 2 → Nat :=
  let c1_i32_15 : BitVec 32 := 1#32
  let v53 : BitVec 32 := Scalar.subi v4 c1_i32_15
  let c0_i32_16 : BitVec 32 := 0#32
  let v54 : BitVec 32 := Scalar.maxsi v53 c0_i32_16
  let c0_i32_18 : BitVec 32 := 0#32
  let v56 : BitVec 1 := Scalar.cmpi .sgt v54 c0_i32_18
  let v57 : BitVec 32 := Scalar.extui v56
  let c0_i32_19 : BitVec 32 := 0#32
  let v58 : BitVec 1 := Scalar.cmpi .slt v54 c0_i32_19
  let v59 : BitVec 32 := Scalar.extui v58
  let v60 : BitVec 32 := Scalar.subi v57 v59
  let c8_i32_17 : BitVec 32 := 8#32
  let c0_i32_20 : BitVec 32 := 0#32
  let v61 : BitVec 1 := Scalar.cmpi .sgt c8_i32_17 c0_i32_20
  let v62 : BitVec 32 := Scalar.extui v61
  let c0_i32_21 : BitVec 32 := 0#32
  let v63 : BitVec 1 := Scalar.cmpi .slt c8_i32_17 c0_i32_21
  let v64 : BitVec 32 := Scalar.extui v63
  let v65 : BitVec 32 := Scalar.subi v62 v64
  let v66 : BitVec 1 := Scalar.cmpi .ne v60 v65
  let v67 : BitVec 32 := Scalar.remsi v54 c8_i32_17
  let c0_i32_22 : BitVec 32 := 0#32
  let v68 : BitVec 1 := Scalar.cmpi .ne v67 c0_i32_22
  let v69 : BitVec 1 := Scalar.andi v66 v68
  let v55 : BitVec 32 := Scalar.divsi v54 c8_i32_17
  let c1_i32_23 : BitVec 32 := 1#32
  let v70 : BitVec 32 := Scalar.subi v55 c1_i32_23
  let v71 : BitVec 32 := Scalar.select v69 v70 v55
  let c8_i32_24 : BitVec 32 := 8#32
  let v72 : BitVec 32 := Scalar.muli v71 c8_i32_24
  let v73 : BitVec 32 := v72
  let v80 : Index := Scalar.indexCast v73
  let c0_26 : Index := 0#32
  ![v80.toNat, 0]

def k0_chk2 (v4 : BitVec 32) : Prop :=
  (8 ∣ (k0_mult2 v4).toNat) ∧
  (∀ a, (k0_off5 v4) a + S8x256.size a ≤ S4096x256.size a) ∧
  (∀ a, (k0_off6 v4) a + S8x3.size a ≤ S4096x3.size a)
theorem k0_mult2_dvd : ∀ (v4 : BitVec 32) (k0_hw2 : k0_chk2 v4), 8 ∣ (k0_mult2 v4).toNat := fun v4 k0_hw2 => k0_hw2.1
theorem k0_off5_inb : ∀ (v4 : BitVec 32) (k0_hw2 : k0_chk2 v4), ∀ a, (k0_off5 v4) a + S8x256.size a ≤ S4096x256.size a := fun v4 k0_hw2 => k0_hw2.2.1
theorem k0_off6_inb : ∀ (v4 : BitVec 32) (k0_hw2 : k0_chk2 v4), ∀ a, (k0_off6 v4) a + S8x3.size a ≤ S4096x3.size a := fun v4 k0_hw2 => k0_hw2.2.2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S17 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x18 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S18 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x512x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x18 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4096x256 : Shape := ⟨2, ![4096, 256]⟩
abbrev S4096x3 : Shape := ⟨2, ![4096, 3]⟩
abbrev S4096 : Shape := ⟨1, ![4096]⟩
abbrev S17 : Shape := ⟨1, ![17]⟩
abbrev S256x256 : Shape := ⟨2, ![256, 256]⟩
abbrev S256 : Shape := ⟨1, ![256]⟩
abbrev S3x256 : Shape := ⟨2, ![3, 256]⟩
abbrev S256x18 : Shape := ⟨2, ![256, 18]⟩
abbrev S18 : Shape := ⟨1, ![18]⟩
abbrev S256x6 : Shape := ⟨2, ![256, 6]⟩
abbrev S6 : Shape := ⟨1, ![6]⟩
abbrev S1x17 : Shape := ⟨2, ![1, 17]⟩
abbrev S4096x1 : Shape := ⟨2, ![4096, 1]⟩
abbrev S4096x17 : Shape := ⟨2, ![4096, 17]⟩
abbrev S_ : Shape := ⟨0, ![]⟩
abbrev S1x256 : Shape := ⟨2, ![1, 256]⟩
abbrev S16x512x256 : Shape := ⟨3, ![16, 512, 256]⟩
abbrev S4096x2 : Shape := ⟨2, ![4096, 2]⟩
abbrev S16x512x3 : Shape := ⟨3, ![16, 512, 3]⟩
abbrev S16x512 : Shape := ⟨2, ![16, 512]⟩
abbrev S1x1x256 : Shape := ⟨3, ![1, 1, 256]⟩
abbrev S16x512x4x64 : Shape := ⟨4, ![16, 512, 4, 64]⟩
abbrev S16x4x512x64 : Shape := ⟨4, ![16, 4, 512, 64]⟩
abbrev S16x4x512x512 : Shape := ⟨4, ![16, 4, 512, 512]⟩
abbrev S16x1x1x512 : Shape := ⟨4, ![16, 1, 1, 512]⟩
abbrev S16x4x512 : Shape := ⟨3, ![16, 4, 512]⟩
abbrev S16x4x512x1 : Shape := ⟨4, ![16, 4, 512, 1]⟩
abbrev S16x512x6 : Shape := ⟨3, ![16, 512, 6]⟩
abbrev S1x1x6 : Shape := ⟨3, ![1, 1, 6]⟩
abbrev S16x512x18 : Shape := ⟨3, ![16, 512, 18]⟩
abbrev S1x1x18 : Shape := ⟨3, ![1, 1, 18]⟩

abbrev nBuf : Space → Nat
  | .hbm => 177
  | .vmem => 0
  | .smem => 0
  | _ => 0

abbrev hbmTy0_0 (i : Nat) : BufTy := match i % 128 with
  | 0 => ⟨S4096x256, .f32⟩
  | 1 => ⟨S4096x3, .f32⟩
  | 2 => ⟨S4096, .i32⟩
  | 3 => ⟨S17, .i32⟩
  | 4 => ⟨S256x256, .f32⟩
  | 5 => ⟨S256, .f32⟩
  | 6 => ⟨S3x256, .f32⟩
  | 7 => ⟨S256, .f32⟩
  | 8 => ⟨S256x256, .f32⟩
  | 9 => ⟨S256x256, .f32⟩
  | 10 => ⟨S256x256, .f32⟩
  | 11 => ⟨S256x256, .f32⟩
  | 12 => ⟨S256x18, .f32⟩
  | 13 => ⟨S18, .f32⟩
  | 14 => ⟨S256x6, .f32⟩
  | 15 => ⟨S6, .f32⟩
  | 16 => ⟨S4096, .i32⟩
  | 17 => ⟨S1x17, .i32⟩
  | 18 => ⟨S4096x1, .i32⟩
  | 19 => ⟨S4096x17, .i32⟩
  | 20 => ⟨S4096x17, .i32⟩
  | 21 => ⟨S4096x17, .i1⟩
  | 22 => ⟨S4096x17, .i32⟩
  | 23 => ⟨S_, .i32⟩
  | 24 => ⟨S4096, .i32⟩
  | 25 => ⟨S_, .i32⟩
  | 26 => ⟨S4096, .i32⟩
  | 27 => ⟨S4096, .i32⟩
  | 28 => ⟨S_, .i32⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S4096x1, .i32⟩
  | 44 => ⟨S4096, .i32⟩
  | 45 => ⟨S4096, .i32⟩
  | 46 => ⟨S_, .i32⟩
  | 47 => ⟨S_, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i32⟩
  | 54 => ⟨S4096x256, .f32⟩
  | 55 => ⟨S1x256, .f32⟩
  | 56 => ⟨S4096x256, .f32⟩
  | 57 => ⟨S4096x256, .f32⟩
  | 58 => ⟨S_, .f32⟩
  | 59 => ⟨S4096x256, .f32⟩
  | 60 => ⟨S4096x256, .f32⟩
  | 61 => ⟨S_, .f32⟩
  | 62 => ⟨S16x512x256, .f32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S_, .i32⟩
  | 74 => ⟨S4096, .i32⟩
  | 75 => ⟨S4096, .i32⟩
  | 76 => ⟨S4096, .i32⟩
  | 77 => ⟨S4096x1, .i32⟩
  | 78 => ⟨S4096x1, .i32⟩
  | 79 => ⟨S4096x2, .i32⟩
  | 80 => ⟨S16x512x256, .f32⟩
  | 81 => ⟨S_, .f32⟩
  | 82 => ⟨S16x512x3, .f32⟩
  | 83 => ⟨S_, .i32⟩
  | 84 => ⟨S4096, .i32⟩
  | 85 => ⟨S4096, .i1⟩
  | 86 => ⟨S_, .i32⟩
  | 87 => ⟨S4096, .i32⟩
  | 88 => ⟨S4096, .i32⟩
  | 89 => ⟨S4096, .i32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x1, .i32⟩
  | 99 => ⟨S4096x2, .i32⟩
  | 100 => ⟨S16x512x3, .f32⟩
  | 101 => ⟨S_, .i32⟩
  | 102 => ⟨S16x512, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S4096x1, .i32⟩
  | 119 => ⟨S4096x2, .i32⟩
  | 120 => ⟨S16x512, .i32⟩
  | 121 => ⟨S_, .i32⟩
  | 122 => ⟨S16x512, .i32⟩
  | 123 => ⟨S16x512, .i1⟩
  | 124 => ⟨S16x512x256, .f32⟩
  | 125 => ⟨S16x512x256, .f32⟩
  | 126 => ⟨S1x1x256, .f32⟩
  | 127 => ⟨S16x512x256, .f32⟩
  | _ => ⟨S4096x256, .f32⟩

abbrev hbmTy0_1 (i : Nat) : BufTy := match i % 128 with
  | 0 => ⟨S16x512x256, .f32⟩
  | 1 => ⟨S16x512x256, .f32⟩
  | 2 => ⟨S16x512x4x64, .f32⟩
  | 3 => ⟨S16x4x512x64, .f32⟩
  | 4 => ⟨S16x512x256, .f32⟩
  | 5 => ⟨S16x512x4x64, .f32⟩
  | 6 => ⟨S16x4x512x64, .f32⟩
  | 7 => ⟨S16x512x256, .f32⟩
  | 8 => ⟨S16x512x4x64, .f32⟩
  | 9 => ⟨S16x4x512x64, .f32⟩
  | 10 => ⟨S16x4x512x512, .f32⟩
  | 11 => ⟨S_, .f32⟩
  | 12 => ⟨S_, .f32⟩
  | 13 => ⟨S_, .f32⟩
  | 14 => ⟨S16x4x512x512, .f32⟩
  | 15 => ⟨S16x4x512x512, .f32⟩
  | 16 => ⟨S16x1x1x512, .i1⟩
  | 17 => ⟨S_, .f32⟩
  | 18 => ⟨S_, .f32⟩
  | 19 => ⟨S16x4x512x512, .i1⟩
  | 20 => ⟨S16x4x512x512, .f32⟩
  | 21 => ⟨S16x4x512x512, .f32⟩
  | 22 => ⟨S_, .f32⟩
  | 23 => ⟨S16x4x512, .f32⟩
  | 24 => ⟨S_, .f32⟩
  | 25 => ⟨S16x4x512, .f32⟩
  | 26 => ⟨S16x4x512, .f32⟩
  | 27 => ⟨S16x4x512x1, .f32⟩
  | 28 => ⟨S16x4x512x512, .f32⟩
  | 29 => ⟨S16x4x512x512, .f32⟩
  | 30 => ⟨S16x4x512x512, .f32⟩
  | 31 => ⟨S_, .f32⟩
  | 32 => ⟨S16x4x512, .f32⟩
  | 33 => ⟨S16x4x512x1, .f32⟩
  | 34 => ⟨S16x4x512x512, .f32⟩
  | 35 => ⟨S16x4x512x512, .f32⟩
  | 36 => ⟨S16x4x512x64, .f32⟩
  | 37 => ⟨S16x512x4x64, .f32⟩
  | 38 => ⟨S16x512x256, .f32⟩
  | 39 => ⟨S16x512x256, .f32⟩
  | 40 => ⟨S16x512x256, .f32⟩
  | 41 => ⟨S16x512x6, .f32⟩
  | 42 => ⟨S1x1x6, .f32⟩
  | 43 => ⟨S16x512x6, .f32⟩
  | 44 => ⟨S16x512x6, .f32⟩
  | 45 => ⟨S16x512x18, .f32⟩
  | 46 => ⟨S1x1x18, .f32⟩
  | 47 => ⟨S16x512x18, .f32⟩
  | 48 => ⟨S16x512x18, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_c_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v10 : Ref sig .tc := ⟨.hbm, 35, rfl⟩
abbrev main_c_3 : Ref sig .tc := ⟨.hbm, 36, rfl⟩
abbrev main_v11 : Ref sig .tc := ⟨.hbm, 37, rfl⟩
abbrev main_v12 : Ref sig .tc := ⟨.hbm, 38, rfl⟩
abbrev main_c_4 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_5 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_call2_cst : Ref sig .tc := ⟨.hbm, 58, rfl⟩
abbrev main_call2_v0 : Ref sig .tc := ⟨.hbm, 59, rfl⟩
abbrev main_v24 : Ref sig .tc := ⟨.hbm, 60, rfl⟩
abbrev main_cst : Ref sig .tc := ⟨.hbm, 61, rfl⟩
abbrev main_v25 : Ref sig .tc := ⟨.hbm, 62, rfl⟩
abbrev main_c_7 : Ref sig .tc := ⟨.hbm, 63, rfl⟩
abbrev main_v26 : Ref sig .tc := ⟨.hbm, 64, rfl⟩
abbrev main_v27 : Ref sig .tc := ⟨.hbm, 65, rfl⟩
abbrev main_c_8 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_9 : Ref sig .tc := ⟨.hbm, 70, rfl⟩
abbrev main_v31 : Ref sig .tc := ⟨.hbm, 71, rfl⟩
abbrev main_v32 : Ref sig .tc := ⟨.hbm, 72, rfl⟩
abbrev main_c_10 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_11 : Ref sig .tc := ⟨.hbm, 81, rfl⟩
abbrev main_v40 : Ref sig .tc := ⟨.hbm, 82, rfl⟩
abbrev main_c_12 : Ref sig .tc := ⟨.hbm, 83, rfl⟩
abbrev main_v41 : Ref sig .tc := ⟨.hbm, 84, rfl⟩
abbrev main_v42 : Ref sig .tc := ⟨.hbm, 85, rfl⟩
abbrev main_c_13 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_c_14 : Ref sig .tc := ⟨.hbm, 90, rfl⟩
abbrev main_v46 : Ref sig .tc := ⟨.hbm, 91, rfl⟩
abbrev main_v47 : Ref sig .tc := ⟨.hbm, 92, rfl⟩
abbrev main_c_15 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_16 : Ref sig .tc := ⟨.hbm, 101, rfl⟩
abbrev main_v55 : Ref sig .tc := ⟨.hbm, 102, rfl⟩
abbrev main_c_17 : Ref sig .tc := ⟨.hbm, 103, rfl⟩
abbrev main_v56 : Ref sig .tc := ⟨.hbm, 104, rfl⟩
abbrev main_v57 : Ref sig .tc := ⟨.hbm, 105, rfl⟩
abbrev main_c_18 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_c_19 : Ref sig .tc := ⟨.hbm, 110, rfl⟩
abbrev main_v61 : Ref sig .tc := ⟨.hbm, 111, rfl⟩
abbrev main_v62 : Ref sig .tc := ⟨.hbm, 112, rfl⟩
abbrev main_c_20 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_c_21 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_22 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_23 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v92 : Ref sig .tc := ⟨.hbm, 149, rfl⟩
abbrev main_cst_24 : Ref sig .tc := ⟨.hbm, 150, rfl⟩
abbrev main_v93 : Ref sig .tc := ⟨.hbm, 151, rfl⟩
abbrev main_cst_25 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_26 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩

abbrev nD : Nat := 1
abbrev τ : Topo := Topo.v7x

variable {F : FTy → Type} [FloatOps F]
-- ==== Proof.Range.lean ====
/- What the precondition of the frames says of one offset. -/
module

public import proofs.«01_k».proof.Defs

@[expose] public section

noncomputable section

namespace Cert.Decode

open Idealize.ShloMosaic

theorem ofBool_one (p : Bool) : (BitVec.ofBool p = 1#1) ↔ p = true := by cases p <;> decide

theorem andi_ofBool (p q : Bool) : IntOp.andi (BitVec.ofBool p) (BitVec.ofBool q) = BitVec.ofBool (p && q) := by
  cases p <;> cases q <;> decide

section Range

variable {F : FTy → Type} [FloatOps F] [Cert.Pre_offsets_in_range.Facts]

open Cert.Pre_offsets_in_range in
/-- `offsets_in_range`: every offset is a number from 0 to 4096. -/
theorem range (a0 : FVec F S4096x256 .f32) (a1 : FVec F S4096x3 .f32) (a2 : IVec S4096 32) (a3 : IVec S17 32)
    (a4 : FVec F S256x256 .f32) (a5 : FVec F S256 .f32) (a6 : FVec F S3x256 .f32) (a7 : FVec F S256 .f32)
    (a8 a9 a10 a11 : FVec F S256x256 .f32) (a12 : FVec F S256x18 .f32) (a13 : FVec F S18 .f32)
    (a14 : FVec F S256x6 .f32) (a15 : FVec F S6 .f32)
    (h : Cert.Pre_offsets_in_range.fn a0 a1 a2 a3 a4 a5 a6 a7 a8 a9 a10 a11 a12 a13 a14 a15 = fun _ => 1#1)
    (y : S17.Idx) : (a3 y).toNat ≤ 4096 := by
  have e := congrFun h y
  simp only [Cert.Pre_offsets_in_range.fn, andi, cmpi, broadcastInDim, constantI, IntOp.cmpi, andi_ofBool, ofBool_one,
    Bool.and_eq_true] at e
  obtain ⟨hge, hlt⟩ := e
  simp only [BitVec.sle, BitVec.slt, decide_eq_true_eq, BitVec.toInt, BitVec.toNat_ofNat] at hge hlt
  omega

end Range

end Cert.Decode

end
-- ==== Proof.KernelIdeal.Words.lean ====
/- The two segment offsets that a grid point reads, as numbers. For an offset word between 0 and 4096 the row
   at which the kernel's window starts is `min (8 ⌊s/8⌋) 3576`, and the group of eight rows that it loads for
   the last token starts at `8 ⌊max (e-1) 0 / 8⌋`; both are multiples of eight and both loads lie inside the
   4096 rows. There are 4097 such words, and the facts are checked at each. -/
module

public import proofs.«01_k».proof.Proof.Gen.KernelIdeal.Skeleton

@[expose] public section

namespace Cert.KernelIdeal.Words

open Cert.KernelIdeal
open Idealize.ShloMosaic

/-- Where the window of 520 rows starts, for a segment that begins at row `n`. -/
def base (n : ℕ) : ℕ := min (n / 8 * 8) 3576

/-- Where the group of eight rows with the last token starts, for a segment that ends before row `n`. -/
def group (n : ℕ) : ℕ := (n - 1) / 8 * 8

theorem mult1_table : ∀ n : Fin 4097, k0_mult1 (BitVec.ofNat 32 n.val) = BitVec.ofNat 32 (base n.val) := by
  decide +kernel

theorem mult2_table : ∀ n : Fin 4097, k0_mult2 (BitVec.ofNat 32 n.val) = BitVec.ofNat 32 (group n.val) := by
  decide +kernel

theorem mult1_eq (w : BitVec 32) (h : w.toNat ≤ 4096) : (k0_mult1 w).toNat = base w.toNat := by
  have e := mult1_table ⟨w.toNat, by omega⟩
  simp only [BitVec.ofNat_toNat, BitVec.setWidth_eq] at e
  rw [e, BitVec.toNat_ofNat]; unfold base; omega

theorem mult2_eq (w : BitVec 32) (h : w.toNat ≤ 4096) : (k0_mult2 w).toNat = group w.toNat := by
  have e := mult2_table ⟨w.toNat, by omega⟩
  simp only [BitVec.ofNat_toNat, BitVec.setWidth_eq] at e
  rw [e, BitVec.toNat_ofNat]; unfold group; omega

theorem off3_eq (w : BitVec 32) (h : w.toNat ≤ 4096) : k0_off3 w = ![base w.toNat, 0] := by
  rw [← mult1_eq w h]; rfl

theorem off4_eq (w : BitVec 32) (h : w.toNat ≤ 4096) : k0_off4 w = ![base w.toNat, 0] := by
  rw [← mult1_eq w h]; rfl

theorem off5_eq (w : BitVec 32) (h : w.toNat ≤ 4096) : k0_off5 w = ![group w.toNat, 0] := by
  rw [← mult2_eq w h]; rfl

theorem off6_eq (w : BitVec 32) (h : w.toNat ≤ 4096) : k0_off6 w = ![group w.toNat, 0] := by
  rw [← mult2_eq w h]; rfl

/-- What the body assumes of the first offset. -/
theorem chk1 (w : BitVec 32) (h : w.toNat ≤ 4096) : k0_chk1 w := by
  have hb : base w.toNat ≤ 3576 := by unfold base; omega
  refine ⟨?_, ?_, ?_⟩
  · rw [mult1_eq w h]; unfold base; omega
  · rw [off3_eq w h, Fin.forall_fin_two]
    exact ⟨by show base w.toNat + 520 ≤ 4096; omega, by show _ + _ ≤ _; simp⟩
  · rw [off4_eq w h, Fin.forall_fin_two]
    exact ⟨by show base w.toNat + 520 ≤ 4096; omega, by show _ + _ ≤ _; simp⟩

/-- What the body assumes of the second. -/
theorem chk2 (w : BitVec 32) (h : w.toNat ≤ 4096) : k0_chk2 w := by
  have hb : group w.toNat ≤ 4088 := by unfold group; omega
  refine ⟨?_, ?_, ?_⟩
  · rw [mult2_eq w h]; unfold group; omega
  · rw [off5_eq w h, Fin.forall_fin_two]
    exact ⟨by show group w.toNat + 8 ≤ 4096; omega, by show _ + _ ≤ _; simp⟩
  · rw [off6_eq w h, Fin.forall_fin_two]
    exact ⟨by show group w.toNat + 8 ≤ 4096; omega, by show _ + _ ≤ _; simp⟩

end Cert.KernelIdeal.Words

end
-- ==== Proof.KernelIdeal.Block.lean ====
/- What one grid point computes from the blocks that it is given, written out: the two offsets that it reads
   from the table, the rows that it loads at them, and the operations of the body in between, as the printed
   payloads. The two results of the point are `coords` and `classes`. -/
module

public import proofs.«01_k».proof.Proof.KernelIdeal.Words
public import Idealize.ShloMosaic.Lib.VecWindow
public import Idealize.ShloMosaic.Lib.ValueIdxCore

@[expose] public section

noncomputable section

namespace Cert.KernelIdeal.Block

open Cert.KernelIdeal Cert.KernelIdeal.Gen
open Idealize.ShloMosaic Idealize.ShloMosaic.ValueIdx

variable {F : FTy → Type} [FloatOps F] [Named F]

/-- The offset at which the point's segment begins … -/
def lo (i : grid0.Coords) (x0 : Vec F S17 .i32) : BitVec 32 :=
  x0 (ix1 ⟨(i 0).val, Nat.lt_of_lt_of_le (i 0).isLt (by decide)⟩)

/-- … and the one before which it ends. -/
def hi (i : grid0.Coords) (x0 : Vec F S17 .i32) : BitVec 32 :=
  x0 (ix1 ⟨(i 0).val + 1, Nat.lt_of_lt_of_le (Nat.succ_lt_succ (i 0).isLt) (by decide)⟩)

theorem base_le (n : ℕ) : Words.base n + 520 ≤ 4096 := by unfold Words.base; omega

theorem group_le (n : ℕ) (h : n ≤ 4096) : Words.group n + 8 ≤ 4096 := by unfold Words.group; omega

theorem inb_flat (n : ℕ) : ∀ a, (![Words.base n, 0] : Fin 2 → ℕ) a + S520x256.size a ≤ S4096x256.size a :=
  Fin.forall_fin_two.2 ⟨base_le n, by show 0 + 256 ≤ 256; omega⟩

theorem inb_xyz (n : ℕ) : ∀ a, (![Words.base n, 0] : Fin 2 → ℕ) a + S520x3.size a ≤ S4096x3.size a :=
  Fin.forall_fin_two.2 ⟨base_le n, by show 0 + 3 ≤ 3; omega⟩

theorem inb_flat8 (n : ℕ) (h : n ≤ 4096) : ∀ a, (![Words.group n, 0] : Fin 2 → ℕ) a + S8x256.size a ≤ S4096x256.size a :=
  Fin.forall_fin_two.2 ⟨group_le n h, by show 0 + 256 ≤ 256; omega⟩

theorem inb_xyz8 (n : ℕ) (h : n ≤ 4096) : ∀ a, (![Words.group n, 0] : Fin 2 → ℕ) a + S8x3.size a ≤ S4096x3.size a :=
  Fin.forall_fin_two.2 ⟨group_le n h, by show 0 + 3 ≤ 3; omega⟩

/-- The 520 token rows from the window's start. -/
def flatWin (n : ℕ) (x1 : Vec F S4096x256 .f32) : Vec F S520x256 .f32 :=
  VecWindow.window x1 ![Words.base n, 0] S520x256.size (inb_flat n)

/-- Their positions. -/
def xyzWin (n : ℕ) (x2 : Vec F S4096x3 .f32) : Vec F S520x3 .f32 :=
  VecWindow.window x2 ![Words.base n, 0] S520x3.size (inb_xyz n)

/-- The eight token rows with the segment's last token among them. -/
def flat8 (n : ℕ) (h : n ≤ 4096) (x1 : Vec F S4096x256 .f32) : Vec F S8x256 .f32 :=
  VecWindow.window x1 ![Words.group n, 0] S8x256.size (inb_flat8 n h)

/-- Their positions. -/
def xyz8 (n : ℕ) (h : n ≤ 4096) (x2 : Vec F S4096x3 .f32) : Vec F S8x3 .f32 :=
  VecWindow.window x2 ![Words.group n, 0] S8x3.size (inb_xyz8 n h)

/-- The embedded window rolled so that the segment's first token stands in row 0. -/
def rolled (s : BitVec 32) (x1 : Vec F S4096x256 .f32) (x2 : Vec F S4096x3 .f32) (x3 : Vec F S256x256 .f32)
    (x4 : Vec F S256 .f32) (x5 : Vec F S3x256 .f32) (x6 : Vec F S256 .f32) : FVec F S512x256 .f32 :=
  k0_pay6 x6 (Scalar.subi s (k0_mult1 s)) (xyzWin s.toNat x2) (k0_pay4 (flatWin s.toNat x1) x3 x4) k0_pay5 x5

/-- The hidden rows of the segment: its embedded tokens, the embedding of an empty row below them, and the last
    token in row 511 of a segment that is longer than 512. -/
def hidden (s e : BitVec 32) (he : e.toNat ≤ 4096) (x1 : Vec F S4096x256 .f32) (x2 : Vec F S4096x3 .f32)
    (x3 : Vec F S256x256 .f32) (x4 : Vec F S256 .f32) (x5 : Vec F S3x256 .f32) (x6 : Vec F S256 .f32) :
    FVec F S512x256 .f32 :=
  k0_pay9 (Scalar.subi e s) x6 (rolled s x1 x2 x3 x4 x5 x6) (iota .tc S512x1 32 [0] iota_S512x1_d0_w32)
    (k0_pay7 (Scalar.subi e s)) (k0_pay8 (F := F) e) (flat8 e.toNat he x1) (xyz8 e.toNat he x2) x3 x4 x5

/-- The scaled queries. -/
def query (s e : BitVec 32) (he : e.toNat ≤ 4096) (x1 : Vec F S4096x256 .f32) (x2 : Vec F S4096x3 .f32)
    (x3 : Vec F S256x256 .f32) (x4 : Vec F S256 .f32) (x5 : Vec F S3x256 .f32) (x6 : Vec F S256 .f32)
    (x7 : Vec F S256x256 .f32) : FVec F S512x256 .f32 :=
  k0_pay10 (Scalar.subi e s) x6 (rolled s x1 x2 x3 x4 x5 x6) (iota .tc S512x1 32 [0] iota_S512x1_d0_w32)
    (k0_pay7 (Scalar.subi e s)) (k0_pay8 (F := F) e) (flat8 e.toNat he x1) (xyz8 e.toNat he x2) x3 x4 x5 x7

/-- The keys. -/
def key (s e : BitVec 32) (he : e.toNat ≤ 4096) (x1 : Vec F S4096x256 .f32) (x2 : Vec F S4096x3 .f32)
    (x3 : Vec F S256x256 .f32) (x4 : Vec F S256 .f32) (x5 : Vec F S3x256 .f32) (x6 : Vec F S256 .f32)
    (x8 : Vec F S256x256 .f32) : FVec F S512x256 .f32 :=
  k0_pay11 (Scalar.subi e s) x6 (rolled s x1 x2 x3 x4 x5 x6) (iota .tc S512x1 32 [0] iota_S512x1_d0_w32)
    (k0_pay7 (Scalar.subi e s)) (k0_pay8 (F := F) e) (flat8 e.toNat he x1) (xyz8 e.toNat he x2) x3 x4 x5 x8

/-- The first result of the point, from the hidden rows, queries and keys. -/
def coordsOf (len : BitVec 32) (h q k : FVec F S512x256 .f32) (x9 x10 : Vec F S256x256 .f32)
    (x13 : Vec F S256x6 .f32) (x14 : Vec F S6 .f32) : FVec F S1x512x6 .f32 :=
  k0_pay2 h (k0_pay12 h x9) k0_pay13 (k0_pay14 (k0_pay7 len)) (k0_pay15 (k0_pay7 len) h q k x9)
    (k0_pay16 (k0_pay7 len) h q k x9) (k0_pay17 (k0_pay7 len) h q k x9) (k0_pay18 q) (k0_pay19 k) x10 x13 x14

/-- The second result of the point, from the hidden rows, queries and keys. -/
def classesOf (len : BitVec 32) (h q k : FVec F S512x256 .f32) (x9 x10 : Vec F S256x256 .f32)
    (x11 : Vec F S256x18 .f32) (x12 : Vec F S18 .f32) : FVec F S1x512x18 .f32 :=
  k0_pay3 h (k0_pay12 h x9) k0_pay13 (k0_pay14 (k0_pay7 len)) (k0_pay15 (k0_pay7 len) h q k x9)
    (k0_pay16 (k0_pay7 len) h q k x9) (k0_pay17 (k0_pay7 len) h q k x9) (k0_pay18 q) (k0_pay19 k) x10 x11 x12

/-- The first result of the point. -/
def coords (i : grid0.Coords) (x0 : Vec F S17 .i32) (x1 : Vec F S4096x256 .f32) (x2 : Vec F S4096x3 .f32) (x3 : Vec F S256x256 .f32) (x4 : Vec F S256 .f32) (x5 : Vec F S3x256 .f32) (x6 : Vec F S256 .f32) (x7 : Vec F S256x256 .f32) (x8 : Vec F S256x256 .f32) (x9 : Vec F S256x256 .f32) (x10 : Vec F S256x256 .f32) (x11 : Vec F S256x18 .f32) (x12 : Vec F S18 .f32) (x13 : Vec F S256x6 .f32) (x14 : Vec F S6 .f32)
    (hx0 : ∀ y, BitVec.toNat (x0 y) ≤ 4096) : FVec F S1x512x6 .f32 :=
  coordsOf (Scalar.subi (hi i x0) (lo i x0)) (hidden (lo i x0) (hi i x0) (hx0 _) x1 x2 x3 x4 x5 x6)
    (query (lo i x0) (hi i x0) (hx0 _) x1 x2 x3 x4 x5 x6 x7) (key (lo i x0) (hi i x0) (hx0 _) x1 x2 x3 x4 x5 x6 x8)
    x9 x10 x13 x14

/-- The second. -/
def classes (i : grid0.Coords) (x0 : Vec F S17 .i32) (x1 : Vec F S4096x256 .f32) (x2 : Vec F S4096x3 .f32) (x3 : Vec F S256x256 .f32) (x4 : Vec F S256 .f32) (x5 : Vec F S3x256 .f32) (x6 : Vec F S256 .f32) (x7 : Vec F S256x256 .f32) (x8 : Vec F S256x256 .f32) (x9 : Vec F S256x256 .f32) (x10 : Vec F S256x256 .f32) (x11 : Vec F S256x18 .f32) (x12 : Vec F S18 .f32) (x13 : Vec F S256x6 .f32) (x14 : Vec F S6 .f32)
    (hx0 : ∀ y, BitVec.toNat (x0 y) ≤ 4096) : FVec F S1x512x18 .f32 :=
  classesOf (Scalar.subi (hi i x0) (lo i x0)) (hidden (lo i x0) (hi i x0) (hx0 _) x1 x2 x3 x4 x5 x6)
    (query (lo i x0) (hi i x0) (hx0 _) x1 x2 x3 x4 x5 x6 x7) (key (lo i x0) (hi i x0) (hx0 _) x1 x2 x3 x4 x5 x6 x8)
    x9 x10 x11 x12

end Cert.KernelIdeal.Block

end
-- ==== Proof.KernelIdeal.Body.lean ====
/- The body's run at any grid point: from the blocks in its staging buffers it ends with the two results that
   `Block` writes out in its output buffers, and every other buffer as it was. -/
module

public import proofs.«01_k».proof.Proof.KernelIdeal.Block
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off1_eq : ∀ i : grid0.Coords, k0_off1 i = ![(i 0).val] := by decide +kernel

theorem off2_eq : ∀ i : grid0.Coords, k0_off2 i = ![(i 0).val + 1] := by decide +kernel

/-- The first word that the body reads is the segment's beginning. -/
theorem word_lo (i : grid0.Coords) (x0 : Vec F S17 .i32) (arg1 : Memref sig .tc .smem S17 .i32) (harg1 : arg1.IsWhole)
    (inb : ∀ a, k0_off1 i a + S1.size a ≤ S17.size a) (y : Shape.Idx (Rect.unit (s := S17) (k0_off1 i) S1.size inb).toLoadRect.shape) :
    arg1.view.readAt (Elt F) (Rect.unit (s := S17) (k0_off1 i) S1.size inb).toLoadRect (harg1.unread x0) y = Block.lo i x0 := by
  rw [View.readAt_apply, Memref.IsWhole.read_unread]
  refine congrArg x0 (funext fun a => Fin.ext ?_)
  match a with
  | ⟨0, h⟩ =>
    have hy : (y ⟨0, h⟩).val < 1 := (y ⟨0, h⟩).isLt
    have h1 : k0_off1 i ⟨0, h⟩ = (i 0).val := by rw [off1_eq]; rfl
    show k0_off1 i ⟨0, h⟩ + 1 * (y ⟨0, h⟩).val = (i 0).val
    omega

/-- The second is its end. -/
theorem word_hi (i : grid0.Coords) (x0 : Vec F S17 .i32) (arg1 : Memref sig .tc .smem S17 .i32) (harg1 : arg1.IsWhole)
    (inb : ∀ a, k0_off2 i a + S1.size a ≤ S17.size a) (y : Shape.Idx (Rect.unit (s := S17) (k0_off2 i) S1.size inb).toLoadRect.shape) :
    arg1.view.readAt (Elt F) (Rect.unit (s := S17) (k0_off2 i) S1.size inb).toLoadRect (harg1.unread x0) y = Block.hi i x0 := by
  rw [View.readAt_apply, Memref.IsWhole.read_unread]
  refine congrArg x0 (funext fun a => Fin.ext ?_)
  match a with
  | ⟨0, h⟩ =>
    have hy : (y ⟨0, h⟩).val < 1 := (y ⟨0, h⟩).isLt
    have h1 : k0_off2 i ⟨0, h⟩ = (i 0).val + 1 := by rw [off2_eq]; rfl
    show k0_off2 i ⟨0, h⟩ + 1 * (y ⟨0, h⟩).val = (i 0).val + 1
    omega

set_option maxHeartbeats 4000000 in
theorem run (c : Dev nD) (i : grid0.Coords) (arg1 : Memref sig .tc .smem S17 .i32) (harg1 : arg1.IsWhole) (arg2 : Memref sig .tc .vmem S4096x256 .f32) (harg2 : arg2.IsWhole) (arg3 : Memref sig .tc .vmem S4096x3 .f32) (harg3 : arg3.IsWhole) (arg4 : Memref sig .tc .vmem S256x256 .f32) (harg4 : arg4.IsWhole) (arg5 : Memref sig .tc .vmem S256 .f32) (harg5 : arg5.IsWhole) (arg6 : Memref sig .tc .vmem S3x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x18 .f32) (harg12 : arg12.IsWhole) (arg13 : Memref sig .tc .vmem S18 .f32) (harg13 : arg13.IsWhole) (arg14 : Memref sig .tc .vmem S256x6 .f32) (harg14 : arg14.IsWhole) (arg15 : Memref sig .tc .vmem S6 .f32) (harg15 : arg15.IsWhole) (arg16 : Memref sig .tc .vmem S1x512x6 .f32) (harg16 : arg16.IsWhole) (arg17 : Memref sig .tc .vmem S1x512x18 .f32) (harg17 : arg17.IsWhole)
    (x0 : Vec F S17 .i32) (x1 : Vec F S4096x256 .f32) (x2 : Vec F S4096x3 .f32) (x3 : Vec F S256x256 .f32) (x4 : Vec F S256 .f32) (x5 : Vec F S3x256 .f32) (x6 : Vec F S256 .f32) (x7 : Vec F S256x256 .f32) (x8 : Vec F S256x256 .f32) (x9 : Vec F S256x256 .f32) (x10 : Vec F S256x256 .f32) (x11 : Vec F S256x18 .f32) (x12 : Vec F S18 .f32) (x13 : Vec F S256x6 .f32) (x14 : Vec F S6 .f32) (hx0 : ∀ y, BitVec.toNat (x0 y) ≤ 4096) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (Block.coords i x0 x1 x2 x3 x4 x5 x6 x7 x8 x9 x10 x11 x12 x13 x14 hx0) ∗ owns (c : Thread nD τ) arg17 fullShare (Block.classes i x0 x1 x2 x3 x4 x5 x6 x7 x8 x9 x10 x11 x12 x13 x14 hx0)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    simp only [cc0__body_eq_skeleton]; unfold cc0__body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg9.eq_unread hf8
    obtain rfl := harg10.eq_unread hf9
    obtain rfl := harg11.eq_unread hf10
    obtain rfl := harg12.eq_unread hf11
    obtain rfl := harg13.eq_unread hf12
    obtain rfl := harg14.eq_unread hf13
    obtain rfl := harg15.eq_unread hf14
    have hread : ∀ (r : LoadRect S17) (y : r.shape.Idx), BitVec.toNat (arg1.view.readAt (Elt F) r (harg1.unread x0) y) ≤ 4096 := by
      intro r y; simp only [View.readAt_apply, Memref.IsWhole.read_unread]; exact hx0 _
    sl_exec
    iapply (wp_assume (P := k0_chk1 _) _ _ _ _ (Words.chk1 _ (hread _ _)))
    sl_exec
    iapply (wp_assume (P := k0_chk2 _) _ _ _ _ (Words.chk2 _ (hread _ _)))
    sl_exec
    have e4 : ∀ inb, arg4.view.readAt (Elt F) (Rect.unit (s := S256x256) ![0, 0] ![256, 256] inb).toLoadRect (harg4.unread x3) = x3 :=
      fun inb => (View.readAt_full (s := S256x256) _ _ inb).trans (harg4.read_unread _)
    have e5 : ∀ inb, arg5.view.readAt (Elt F) (Rect.unit (s := S256) ![0] ![256] inb).toLoadRect (harg5.unread x4) = x4 :=
      fun inb => (View.readAt_full (s := S256) _ _ inb).trans (harg5.read_unread _)
    have e6 : ∀ inb, arg6.view.readAt (Elt F) (Rect.unit (s := S3x256) ![0, 0] ![3, 256] inb).toLoadRect (harg6.unread x5) = x5 :=
      fun inb => (View.readAt_full (s := S3x256) _ _ inb).trans (harg6.read_unread _)
    have e7 : ∀ inb, arg7.view.readAt (Elt F) (Rect.unit (s := S256) ![0] ![256] inb).toLoadRect (harg7.unread x6) = x6 :=
      fun inb => (View.readAt_full (s := S256) _ _ inb).trans (harg7.read_unread _)
    have e8 : ∀ inb, arg8.view.readAt (Elt F) (Rect.unit (s := S256x256) ![0, 0] ![256, 256] inb).toLoadRect (harg8.unread x7) = x7 :=
      fun inb => (View.readAt_full (s := S256x256) _ _ inb).trans (harg8.read_unread _)
    have e9 : ∀ inb, arg9.view.readAt (Elt F) (Rect.unit (s := S256x256) ![0, 0] ![256, 256] inb).toLoadRect (harg9.unread x8) = x8 :=
      fun inb => (View.readAt_full (s := S256x256) _ _ inb).trans (harg9.read_unread _)
    have e10 : ∀ inb, arg10.view.readAt (Elt F) (Rect.unit (s := S256x256) ![0, 0] ![256, 256] inb).toLoadRect (harg10.unread x9) = x9 :=
      fun inb => (View.readAt_full (s := S256x256) _ _ inb).trans (harg10.read_unread _)
    have e11 : ∀ inb, arg11.view.readAt (Elt F) (Rect.unit (s := S256x256) ![0, 0] ![256, 256] inb).toLoadRect (harg11.unread x10) = x10 :=
      fun inb => (View.readAt_full (s := S256x256) _ _ inb).trans (harg11.read_unread _)
    have e12 : ∀ inb, arg12.view.readAt (Elt F) (Rect.unit (s := S256x18) ![0, 0] ![256, 18] inb).toLoadRect (harg12.unread x11) = x11 :=
      fun inb => (View.readAt_full (s := S256x18) _ _ inb).trans (harg12.read_unread _)
    have e13 : ∀ inb, arg13.view.readAt (Elt F) (Rect.unit (s := S18) ![0] ![18] inb).toLoadRect (harg13.unread x12) = x12 :=
      fun inb => (View.readAt_full (s := S18) _ _ inb).trans (harg13.read_unread _)
    have e14 : ∀ inb, arg14.view.readAt (Elt F) (Rect.unit (s := S256x6) ![0, 0] ![256, 6] inb).toLoadRect (harg14.unread x13) = x13 :=
      fun inb => (View.readAt_full (s := S256x6) _ _ inb).trans (harg14.read_unread _)
    have e15 : ∀ inb, arg15.view.readAt (Elt F) (Rect.unit (s := S6) ![0] ![6] inb).toLoadRect (harg15.unread x14) = x14 :=
      fun inb => (View.readAt_full (s := S6) _ _ inb).trans (harg15.read_unread _)
    have w3 : ∀ (W : BitVec 32) (h : W.toNat ≤ 4096) inb, arg2.view.readAt (Elt F) (Rect.unit (s := S4096x256) (k0_off3 W) ![520, 256] inb).toLoadRect (harg2.unread x1) = Block.flatWin W.toNat x1 :=
      fun W h inb => (View.readAt_unit _ _ inb (Words.off3_eq W h) (Block.inb_flat _)).trans (by rw [Memref.IsWhole.read_unread]; rfl)
    have w4 : ∀ (W : BitVec 32) (h : W.toNat ≤ 4096) inb, arg3.view.readAt (Elt F) (Rect.unit (s := S4096x3) (k0_off4 W) ![520, 3] inb).toLoadRect (harg3.unread x2) = Block.xyzWin W.toNat x2 :=
      fun W h inb => (View.readAt_unit _ _ inb (Words.off4_eq W h) (Block.inb_xyz _)).trans (by rw [Memref.IsWhole.read_unread]; rfl)
    have w5 : ∀ (W : BitVec 32) (e : W = Block.hi i x0) inb, arg2.view.readAt (Elt F) (Rect.unit (s := S4096x256) (k0_off5 W) ![8, 256] inb).toLoadRect (harg2.unread x1)
        = Block.flat8 (Block.hi i x0).toNat (hx0 _) x1 := by
      intro W e inb; subst e
      exact (View.readAt_unit _ _ inb (Words.off5_eq _ (hx0 _)) (Block.inb_flat8 _ (hx0 _))).trans (by rw [Memref.IsWhole.read_unread]; rfl)
    have w6 : ∀ (W : BitVec 32) (e : W = Block.hi i x0) inb, arg3.view.readAt (Elt F) (Rect.unit (s := S4096x3) (k0_off6 W) ![8, 3] inb).toLoadRect (harg3.unread x2)
        = Block.xyz8 (Block.hi i x0).toNat (hx0 _) x2 := by
      intro W e inb; subst e
      exact (View.readAt_unit _ _ inb (Words.off6_eq _ (hx0 _)) (Block.inb_xyz8 _ (hx0 _))).trans (by rw [Memref.IsWhole.read_unread]; rfl)
    have u1 : ∀ inb y, arg1.view.readAt (Elt F) (Rect.unit (s := S17) (k0_off1 i) ![1] inb).toLoadRect (harg1.unread x0) y = Block.lo i x0 :=
      fun inb y => word_lo i x0 arg1 harg1 inb y
    have u2 : ∀ inb y, arg1.view.readAt (Elt F) (Rect.unit (s := S17) (k0_off2 i) ![1] inb).toLoadRect (harg1.unread x0) y = Block.hi i x0 :=
      fun inb y => word_hi i x0 arg1 harg1 inb y
    have uv : run.sl.v25 c i arg1 harg1 x0 = k0_mult1 (Block.lo i x0) := by
      refine Eq.trans (b := k0_mult1 (run.sl.r c i arg1 harg1 x0)) rfl (congrArg k0_mult1 ?_)
      unfold run.sl.r; exact u1 _ _
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; isplitr
      · ipureintro; exact harg4.read_unread _
      iexact H3
    isplitl [H4]
    · iexists _; isplitr
      · ipureintro; exact harg5.read_unread _
      iexact H4
    isplitl [H5]
    · iexists _; isplitr
      · ipureintro; exact harg6.read_unread _
      iexact H5
    isplitl [H6]
    · iexists _; isplitr
      · ipureintro; exact harg7.read_unread _
      iexact H6
    isplitl [H7]
    · iexists _; isplitr
      · ipureintro; exact harg8.read_unread _
      iexact H7
    isplitl [H8]
    · iexists _; isplitr
      · ipureintro; exact harg9.read_unread _
      iexact H8
    isplitl [H9]
    · iexists _; isplitr
      · ipureintro; exact harg10.read_unread _
      iexact H9
    isplitl [H10]
    · iexists _; isplitr
      · ipureintro; exact harg11.read_unread _
      iexact H10
    isplitl [H11]
    · iexists _; isplitr
      · ipureintro; exact harg12.read_unread _
      iexact H11
    isplitl [H12]
    · iexists _; isplitr
      · ipureintro; exact harg13.read_unread _
      iexact H12
    isplitl [H13]
    · iexists _; isplitr
      · ipureintro; exact harg14.read_unread _
      iexact H13
    isplitl [H14]
    · iexists _; isplitr
      · ipureintro; exact harg15.read_unread _
      iexact H14
    isplitl [H15]
    · iexists _; isplitr
      swap; · iexact H15
      ipureintro
      refine (View.read_writes_full _ _ _ _ _).trans ?_
      unfold run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.v5 run.sl.v27 run.sl.v29 run.sl.v31 run.sl.v49 run.sl.v79 run.sl.v81 run.sl.r_1 run.sl.r
      simp only [w3 _ (hread _ _), w4 _ (hread _ _), w5 _ (u2 _ _), w6 _ (u2 _ _)]
      simp only [e4, e5, e6, e7, e8, e9, e10, e11, e12, e13, e14, e15, u1, u2, uv]
      rfl
    · iexists _; isplitr
      swap; · iexact H16
      ipureintro
      refine (View.read_writes_full _ _ _ _ _).trans ?_
      unfold run.sl.r_16 run.sl.r_15 run.sl.r_14 run.sl.r_13 run.sl.r_12 run.sl.r_11 run.sl.r_10 run.sl.r_9 run.sl.r_8 run.sl.r_7 run.sl.r_6 run.sl.r_5 run.sl.r_4 run.sl.r_3 run.sl.r_2 run.sl.v5 run.sl.v27 run.sl.v29 run.sl.v31 run.sl.v49 run.sl.v79 run.sl.v81 run.sl.r_1 run.sl.r
      simp only [w3 _ (hread _ _), w4 _ (hread _ _), w5 _ (u2 _ _), w6 _ (u2 _ _)]
      simp only [e4, e5, e6, e7, e8, e9, e10, e11, e12, e13, e14, e15, u1, u2, uv]
      rfl

end Cert.KernelIdeal.Body

end
-- ==== Proof.KernelIdeal.Run.lean ====
/- The launch: what the body's run (`Body.run`) gives at every grid point is handed to the pipeline's theorem. The program
   ends with every argument array unchanged and every counter at zero, and the two result arrays hold what the
   pipeline flushed of the points' results. All of it for offsets between 0 and 4096. -/
module

public import proofs.«01_k».proof.Proof.KernelIdeal.Body
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (hm : ∀ (c : Dev nD) (t : Fin cfg0.N) (y : S17.Idx), BitVec.toNat (iblk m c 0 t y : BitVec 32) ≤ 4096)

/-- The first result of point `t`. -/
def out15 (c : Dev nD) (t : Fin cfg0.N) : Vec F S1x512x6 .f32 :=
  Block.coords (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hm c t)

/-- The second. -/
def out16 (c : Dev nD) (t : Fin cfg0.N) : Vec F S1x512x18 .f32 :=
  Block.classes (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hm c t)

/-- What the pipeline's theorem is told: after point `t` an input's buffer holds its block and an output's the
    point's result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15 m hm c t
    | ⟨16, _⟩ => out16 m hm c t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m hm 0 c).A w = V m c (Pipeline.arrRef spec0 w) := by
  dsimp only [dats]

theorem after_0 (c : Dev nD) (t : Fin cfg0.N) : (dats m hm 0 c).after 0 t = iblk m c 0 t := by dsimp only [dats]
theorem after_1 (c : Dev nD) (t : Fin cfg0.N) : (dats m hm 0 c).after 1 t = iblk m c 1 t := by dsimp only [dats]
theorem after_2 (c : Dev nD) (t : Fin cfg0.N) : (dats m hm 0 c).after 2 t = iblk m c 2 t := by dsimp only [dats]
theorem after_3 (c : Dev nD) (t : Fin cfg0.N) : (dats m hm 0 c).after 3 t = iblk m c 3 t := by dsimp only [dats]
theorem after_4 (c : Dev nD) (t : Fin cfg0.N) : (dats m hm 0 c).after 4 t = iblk m c 4 t := by dsimp only [dats]
theorem after_5 (c : Dev nD) (t : Fin cfg0.N) : (dats m hm 0 c).after 5 t = iblk m c 5 t := by dsimp only [dats]
theorem after_6 (c : Dev nD) (t : Fin cfg0.N) : (dats m hm 0 c).after 6 t = iblk m c 6 t := by dsimp only [dats]
theorem after_7 (c : Dev nD) (t : Fin cfg0.N) : (dats m hm 0 c).after 7 t = iblk m c 7 t := by dsimp only [dats]
theorem after_8 (c : Dev nD) (t : Fin cfg0.N) : (dats m hm 0 c).after 8 t = iblk m c 8 t := by dsimp only [dats]
theorem after_9 (c : Dev nD) (t : Fin cfg0.N) : (dats m hm 0 c).after 9 t = iblk m c 9 t := by dsimp only [dats]
theorem after_10 (c : Dev nD) (t : Fin cfg0.N) : (dats m hm 0 c).after 10 t = iblk m c 10 t := by dsimp only [dats]
theorem after_11 (c : Dev nD) (t : Fin cfg0.N) : (dats m hm 0 c).after 11 t = iblk m c 11 t := by dsimp only [dats]
theorem after_12 (c : Dev nD) (t : Fin cfg0.N) : (dats m hm 0 c).after 12 t = iblk m c 12 t := by dsimp only [dats]
theorem after_13 (c : Dev nD) (t : Fin cfg0.N) : (dats m hm 0 c).after 13 t = iblk m c 13 t := by dsimp only [dats]
theorem after_14 (c : Dev nD) (t : Fin cfg0.N) : (dats m hm 0 c).after 14 t = iblk m c 14 t := by dsimp only [dats]
theorem after_15 (c : Dev nD) (t : Fin cfg0.N) : (dats m hm 0 c).after 15 t = out15 m hm c t := by dsimp only [dats]
theorem after_16 (c : Dev nD) (t : Fin cfg0.N) : (dats m hm 0 c).after 16 t = out16 m hm c t := by dsimp only [dats]

theorem before_0 (c : Dev nD) (t : Fin cfg0.N) (d) : (dats m hm 0 c).before 0 t d = iblk m c 0 t :=
  before0_0_of m (dats m hm 0 c) (A_eq m hm c 0) (after_0 m hm c) t d
theorem before_1 (c : Dev nD) (t : Fin cfg0.N) (d) : (dats m hm 0 c).before 1 t d = iblk m c 1 t :=
  before0_1_of m (dats m hm 0 c) (A_eq m hm c 1) (after_1 m hm c) t d
theorem before_2 (c : Dev nD) (t : Fin cfg0.N) (d) : (dats m hm 0 c).before 2 t d = iblk m c 2 t :=
  before0_2_of m (dats m hm 0 c) (A_eq m hm c 2) (after_2 m hm c) t d
theorem before_3 (c : Dev nD) (t : Fin cfg0.N) (d) : (dats m hm 0 c).before 3 t d = iblk m c 3 t :=
  before0_3_of m (dats m hm 0 c) (A_eq m hm c 3) (after_3 m hm c) t d
theorem before_4 (c : Dev nD) (t : Fin cfg0.N) (d) : (dats m hm 0 c).before 4 t d = iblk m c 4 t :=
  before0_4_of m (dats m hm 0 c) (A_eq m hm c 4) (after_4 m hm c) t d
theorem before_5 (c : Dev nD) (t : Fin cfg0.N) (d) : (dats m hm 0 c).before 5 t d = iblk m c 5 t :=
  before0_5_of m (dats m hm 0 c) (A_eq m hm c 5) (after_5 m hm c) t d
theorem before_6 (c : Dev nD) (t : Fin cfg0.N) (d) : (dats m hm 0 c).before 6 t d = iblk m c 6 t :=
  before0_6_of m (dats m hm 0 c) (A_eq m hm c 6) (after_6 m hm c) t d
theorem before_7 (c : Dev nD) (t : Fin cfg0.N) (d) : (dats m hm 0 c).before 7 t d = iblk m c 7 t :=
  before0_7_of m (dats m hm 0 c) (A_eq m hm c 7) (after_7 m hm c) t d
theorem before_8 (c : Dev nD) (t : Fin cfg0.N) (d) : (dats m hm 0 c).before 8 t d = iblk m c 8 t :=
  before0_8_of m (dats m hm 0 c) (A_eq m hm c 8) (after_8 m hm c) t d
theorem before_9 (c : Dev nD) (t : Fin cfg0.N) (d) : (dats m hm 0 c).before 9 t d = iblk m c 9 t :=
  before0_9_of m (dats m hm 0 c) (A_eq m hm c 9) (after_9 m hm c) t d
theorem before_10 (c : Dev nD) (t : Fin cfg0.N) (d) : (dats m hm 0 c).before 10 t d = iblk m c 10 t :=
  before0_10_of m (dats m hm 0 c) (A_eq m hm c 10) (after_10 m hm c) t d
theorem before_11 (c : Dev nD) (t : Fin cfg0.N) (d) : (dats m hm 0 c).before 11 t d = iblk m c 11 t :=
  before0_11_of m (dats m hm 0 c) (A_eq m hm c 11) (after_11 m hm c) t d
theorem before_12 (c : Dev nD) (t : Fin cfg0.N) (d) : (dats m hm 0 c).before 12 t d = iblk m c 12 t :=
  before0_12_of m (dats m hm 0 c) (A_eq m hm c 12) (after_12 m hm c) t d
theorem before_13 (c : Dev nD) (t : Fin cfg0.N) (d) : (dats m hm 0 c).before 13 t d = iblk m c 13 t :=
  before0_13_of m (dats m hm 0 c) (A_eq m hm c 13) (after_13 m hm c) t d
theorem before_14 (c : Dev nD) (t : Fin cfg0.N) (d) : (dats m hm 0 c).before 14 t d = iblk m c 14 t :=
  before0_14_of m (dats m hm 0 c) (A_eq m hm c 14) (after_14 m hm c) t d

/-- Window `k`'s staging buffer at point `t`. -/
abbrev st_0 (t : Fin cfg0.N) := win0_0.stage (cfg0.slots t 0)
abbrev st_1 (t : Fin cfg0.N) := win0_1.stage (cfg0.slots t 1)
abbrev st_2 (t : Fin cfg0.N) := win0_2.stage (cfg0.slots t 2)
abbrev st_3 (t : Fin cfg0.N) := win0_3.stage (cfg0.slots t 3)
abbrev st_4 (t : Fin cfg0.N) := win0_4.stage (cfg0.slots t 4)
abbrev st_5 (t : Fin cfg0.N) := win0_5.stage (cfg0.slots t 5)
abbrev st_6 (t : Fin cfg0.N) := win0_6.stage (cfg0.slots t 6)
abbrev st_7 (t : Fin cfg0.N) := win0_7.stage (cfg0.slots t 7)
abbrev st_8 (t : Fin cfg0.N) := win0_8.stage (cfg0.slots t 8)
abbrev st_9 (t : Fin cfg0.N) := win0_9.stage (cfg0.slots t 9)
abbrev st_10 (t : Fin cfg0.N) := win0_10.stage (cfg0.slots t 10)
abbrev st_11 (t : Fin cfg0.N) := win0_11.stage (cfg0.slots t 11)
abbrev st_12 (t : Fin cfg0.N) := win0_12.stage (cfg0.slots t 12)
abbrev st_13 (t : Fin cfg0.N) := win0_13.stage (cfg0.slots t 13)
abbrev st_14 (t : Fin cfg0.N) := win0_14.stage (cfg0.slots t 14)
abbrev st_15 (t : Fin cfg0.N) := win0_15.stage (cfg0.slots t 15)
abbrev st_16 (t : Fin cfg0.N) := win0_16.stage (cfg0.slots t 16)

/-- What the body is called with at point `t`. -/
def bodyPre (c : Dev nD) (t : Fin cfg0.N) : sProp 𝕄 :=
  iprop((dats m hm 0 c).Φ t.castSucc ∗ (dats m hm 0 c).owesAt () t.castSucc
    ∗ (∃ d, owns (c : Thread nD τ) (st_0 t) fullShare ((dats m hm 0 c).before 0 t d))
    ∗ (∃ d, owns (c : Thread nD τ) (st_1 t) fullShare ((dats m hm 0 c).before 1 t d))
    ∗ (∃ d, owns (c : Thread nD τ) (st_2 t) fullShare ((dats m hm 0 c).before 2 t d))
    ∗ (∃ d, owns (c : Thread nD τ) (st_3 t) fullShare ((dats m hm 0 c).before 3 t d))
    ∗ (∃ d, owns (c : Thread nD τ) (st_4 t) fullShare ((dats m hm 0 c).before 4 t d))
    ∗ (∃ d, owns (c : Thread nD τ) (st_5 t) fullShare ((dats m hm 0 c).before 5 t d))
    ∗ (∃ d, owns (c : Thread nD τ) (st_6 t) fullShare ((dats m hm 0 c).before 6 t d))
    ∗ (∃ d, owns (c : Thread nD τ) (st_7 t) fullShare ((dats m hm 0 c).before 7 t d))
    ∗ (∃ d, owns (c : Thread nD τ) (st_8 t) fullShare ((dats m hm 0 c).before 8 t d))
    ∗ (∃ d, owns (c : Thread nD τ) (st_9 t) fullShare ((dats m hm 0 c).before 9 t d))
    ∗ (∃ d, owns (c : Thread nD τ) (st_10 t) fullShare ((dats m hm 0 c).before 10 t d))
    ∗ (∃ d, owns (c : Thread nD τ) (st_11 t) fullShare ((dats m hm 0 c).before 11 t d))
    ∗ (∃ d, owns (c : Thread nD τ) (st_12 t) fullShare ((dats m hm 0 c).before 12 t d))
    ∗ (∃ d, owns (c : Thread nD τ) (st_13 t) fullShare ((dats m hm 0 c).before 13 t d))
    ∗ (∃ d, owns (c : Thread nD τ) (st_14 t) fullShare ((dats m hm 0 c).before 14 t d))
    ∗ (∃ d, owns (c : Thread nD τ) (st_15 t) fullShare ((dats m hm 0 c).before 15 t d))
    ∗ (∃ d, owns (c : Thread nD τ) (st_16 t) fullShare ((dats m hm 0 c).before 16 t d))
    )

/-- What it returns. -/
def bodyPost (c : Dev nD) (t : Fin cfg0.N) : sProp 𝕄 :=
  iprop((dats m hm 0 c).Φ t.succ ∗ (dats m hm 0 c).owesAt () t.succ
    ∗ owns (c : Thread nD τ) (st_0 t) fullShare ((dats m hm 0 c).after 0 t)
    ∗ owns (c : Thread nD τ) (st_1 t) fullShare ((dats m hm 0 c).after 1 t)
    ∗ owns (c : Thread nD τ) (st_2 t) fullShare ((dats m hm 0 c).after 2 t)
    ∗ owns (c : Thread nD τ) (st_3 t) fullShare ((dats m hm 0 c).after 3 t)
    ∗ owns (c : Thread nD τ) (st_4 t) fullShare ((dats m hm 0 c).after 4 t)
    ∗ owns (c : Thread nD τ) (st_5 t) fullShare ((dats m hm 0 c).after 5 t)
    ∗ owns (c : Thread nD τ) (st_6 t) fullShare ((dats m hm 0 c).after 6 t)
    ∗ owns (c : Thread nD τ) (st_7 t) fullShare ((dats m hm 0 c).after 7 t)
    ∗ owns (c : Thread nD τ) (st_8 t) fullShare ((dats m hm 0 c).after 8 t)
    ∗ owns (c : Thread nD τ) (st_9 t) fullShare ((dats m hm 0 c).after 9 t)
    ∗ owns (c : Thread nD τ) (st_10 t) fullShare ((dats m hm 0 c).after 10 t)
    ∗ owns (c : Thread nD τ) (st_11 t) fullShare ((dats m hm 0 c).after 11 t)
    ∗ owns (c : Thread nD τ) (st_12 t) fullShare ((dats m hm 0 c).after 12 t)
    ∗ owns (c : Thread nD τ) (st_13 t) fullShare ((dats m hm 0 c).after 13 t)
    ∗ owns (c : Thread nD τ) (st_14 t) fullShare ((dats m hm 0 c).after 14 t)
    ∗ owns (c : Thread nD τ) (st_15 t) fullShare ((dats m hm 0 c).after 15 t)
    ∗ owns (c : Thread nD τ) (st_16 t) fullShare ((dats m hm 0 c).after 16 t)
    )

set_option maxHeartbeats 1600000 in
/-- The body at any point: its run, at the point's buffers and blocks. -/
theorem sound_body (c : Dev nD) (t : Fin cfg0.N) :
    bodyPre m hm c t ⊢ wp frame (wpE (defs₀ (F := F)) Variants.none c none) Set.univ (bodyAt0 t) (fun _ => bodyPost m hm c t) := by
  unfold bodyPre bodyPost bodyAt0
  simp only [before_0, before_1, before_2, before_3, before_4, before_5, before_6, before_7, before_8, before_9, before_10, before_11, before_12, before_13, before_14]
  rw [show (dats m hm 0 c).Φ t.succ = (dats m hm 0 c).Φ t.castSucc from rfl,
    show (dats m hm 0 c).owesAt () t.succ = (dats m hm 0 c).owesAt () t.castSucc from rfl,
    after_0, after_1, after_2, after_3, after_4, after_5, after_6, after_7, after_8, after_9, after_10, after_11, after_12, after_13, after_14, after_15, after_16]
  unfold out15 out16
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (Body.run c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (hm c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

/-- What the pipeline's theorem asks of the body. -/
theorem body_obligation (c : Dev nD) : BodyObligation (dats (F := F) m hm 0 c) (defs₀ (F := F)) Variants.none () Set.univ := fun t => by
  rw [bigSep_W0, bigSep_W0, defs₀_row]
  exact triple_restated (sound_body m hm c t) rfl .rfl fun _ => .rfl

set_option backward.isDefEq.respectTransparency.types false in
/-- The launch ends with every array at what the pipeline computes, and every counter at zero. -/
theorem run_main_quiescent : θ_run defs (onTc (τ := τ) (main (F := F))) (s₀ m ρ)
    (fun r => (Pipeline.FramePost cfgs (dats m hm) 0 (V m)) r ∧ r.2.sem = fun _ => 0) :=
  Pipeline.θ_run_frame (Q' := _) cfgs (dats m hm) (0 : Fin 1) launch0 defs₀ Variants.none m ρ main
    (hbody := fun c => (body_obligation m hm c).loose) (hshare := fun c => (dats m hm 0 c).share_full fun _ => rfl)
    (howed := fun _ _ => rfl) (V := V m) (hmain := hmain m Variants.none) (hA := A_eq m hm) (hΦ := fun _ _ => rfl)

theorem run_main : θ_run defs (onTc (τ := τ) (main (F := F))) (s₀ m ρ) (Pipeline.FramePost cfgs (dats m hm) 0 (V m)) :=
  (θ_run defs _ _).mono (fun _ h => h.1) (run_main_quiescent m ρ hm)

include hm in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m hm) (A_eq m hm) (run_main m ρ hm)

include hm in
/-- And every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ hm) ((θ_run defs _ _).mono (fun _ h => h.2) (run_main_quiescent m ρ hm))

end Cert.KernelIdeal.Run

end
-- ==== Proof.KernelIdeal.Head.lean ====
/- One attention head of the kernel's block, read at an element: a quotient of two sums over the segment's rows. The key
   carries the bias as a 65th column against a column of ones in the query, and the value carries a column of ones, whose
   product is the denominator. -/
module

public import proofs.«01_k».proof.Proof.KernelIdeal.Block
public import Idealize.ShloMosaic.Lib.Pointwise

@[expose] public section

noncomputable section

namespace Cert.KernelIdeal.Head

open Cert.KernelIdeal Cert.KernelIdeal.Gen
open Idealize.ShloMosaic

/-- 64 columns and one more, side by side. -/
def beside (x : FVec Ideal S512x64 .f32) (y : FVec Ideal S512x1 .f32) : FVec Ideal S512x65 .f32 :=
  concatenate S512x65 1 [⟨S512x64, x⟩, ⟨S512x1, y⟩] concatenates_S512x64_S512x1_S512x65_d1

theorem beside_left (x : FVec Ideal S512x64 .f32) (y : FVec Ideal S512x1 .f32) (i : Fin 512) (c : Fin 64) :
    beside x y (ix2 i c.castSucc) = x (ix2 i c) :=
  concatenate_pair_apply_left (t := S512x65) 1 x y concatenates_S512x64_S512x1_S512x65_d1 (ix2 i c.castSucc) rfl (ix2 i c) (Fin.forall_fin_two.2 ⟨rfl, rfl⟩)

theorem beside_right (x : FVec Ideal S512x64 .f32) (y : FVec Ideal S512x1 .f32) (i : Fin 512) :
    beside x y (ix2 i (Fin.last 64)) = y (ix2 i (0 : Fin 1)) :=
  concatenate_pair_apply_right (t := S512x65) 1 x y concatenates_S512x64_S512x1_S512x65_d1 (ix2 i (Fin.last 64)) rfl rfl (ix2 i (0 : Fin 1))
    (Fin.forall_fin_two.2 ⟨fun _ => rfl, fun h => (h rfl).elim⟩) rfl

theorem scores_apply (a b : FVec Ideal S512x65 .f32) (i t : Fin 512) :
    matmul dot_S512x65_S512x65_S512x512_1_1_0_0_n_n none a b (constant S512x512 .f32 0x00000000#32) (ix2 i t)
      = ∑ c : Fin 65, a (ix2 i c) * b (ix2 t c) := by
  pointwise

theorem mix_apply (a : FVec Ideal S512x512 .f32) (b : FVec Ideal S512x65 .f32) (i : Fin 512) (c : Fin 65) :
    matmul dot_S512x512_S512x65_S512x65_1_0_0_1_n_n none a b (constant S512x65 .f32 0x00000000#32) (ix2 i c)
      = ∑ t : Fin 512, a (ix2 i t) * b (ix2 t c) := by
  pointwise

/-- The mixed values of the head over their 65th column. -/
def quotient (pv : FVec Ideal S512x65 .f32) : FVec Ideal S512x64 .f32 :=
  divf (extractStridedSlice S512x64 ![0, 0] pv slices_S512x65_o0_0_S512x64)
    (broadcastTo S512x64 (extractStridedSlice S512x1 ![0, 64] pv slices_S512x65_o0_64_S512x1) broadcasts_S512x1_S512x64)

theorem quotient_apply (pv : FVec Ideal S512x65 .f32) (i : Fin 512) (c : Fin 64) :
    quotient pv (ix2 i c) = Ideal.div (pv (ix2 i c.castSucc)) (pv (ix2 i (Fin.last 64))) := by
  pointwise [quotient]
  rfl

/-- One head, from its 64 columns of the queries, keys and values. -/
def head (q k v : FVec Ideal S512x64 .f32) (ones bias : FVec Ideal S512x1 .f32) : FVec Ideal S512x64 .f32 :=
  quotient (matmul dot_S512x512_S512x65_S512x65_1_0_0_1_n_n none
    (exp (matmul dot_S512x65_S512x65_S512x512_1_1_0_0_n_n none (beside q ones) (beside k bias)
      (constant S512x512 .f32 0x00000000#32))) (beside v ones) (constant S512x65 .f32 0x00000000#32))

theorem head_apply (q k v : FVec Ideal S512x64 .f32) (ones bias : FVec Ideal S512x1 .f32)
    (h1 : ∀ t : Fin 512, ones (ix2 t (0 : Fin 1)) = 1) (i : Fin 512) (j : Fin 64) :
    head q k v ones bias (ix2 i j)
      = Ideal.div
          (∑ t : Fin 512, Ideal.exp (∑ c : Fin 64, q (ix2 i c) * k (ix2 t c) + bias (ix2 t (0 : Fin 1))) * v (ix2 t j))
          (∑ t : Fin 512, Ideal.exp (∑ c : Fin 64, q (ix2 i c) * k (ix2 t c) + bias (ix2 t (0 : Fin 1)))) := by
  have he : ∀ t : Fin 512,
      exp (matmul dot_S512x65_S512x65_S512x512_1_1_0_0_n_n none (beside q ones) (beside k bias)
        (constant S512x512 .f32 0x00000000#32)) (ix2 i t)
        = Ideal.exp (∑ c : Fin 64, q (ix2 i c) * k (ix2 t c) + bias (ix2 t (0 : Fin 1))) := fun t => by
    show Ideal.exp (matmul dot_S512x65_S512x65_S512x512_1_1_0_0_n_n none (beside q ones) (beside k bias)
        (constant S512x512 .f32 0x00000000#32) (ix2 i t)) = _
    rw [scores_apply, Fin.sum_univ_castSucc]
    simp only [beside_left, beside_right, h1, one_mul]
  unfold head
  rw [quotient_apply, mix_apply, mix_apply]
  simp only [he, beside_left, beside_right, h1, mul_one]

end Cert.KernelIdeal.Head

end
-- ==== Proof.Spec.lean ====
/- The function that both programs compute, over extended reals: a token's embedding, the rows of a batch, the masked
   attention over them in the two forms that the programs write, and a linear head. -/
module

public import Idealize.ShloMosaic.PureOps.Ideal

@[expose] public section

noncomputable section

namespace Cert.Spec

open Idealize.ShloMosaic

/-- A token's embedding: its features through a linear layer and a rectifier, and its position through a linear layer. -/
def embed (f : Fin 256 → EReal) (x : Fin 3 → EReal) (W : Fin 256 → Fin 256 → EReal) (b : Fin 256 → EReal)
    (P : Fin 3 → Fin 256 → EReal) (pb : Fin 256 → EReal) (d : Fin 256) : EReal :=
  max (∑ c : Fin 256, f c * W c d + b d) 0 + ∑ c : Fin 3, x c * P c d + pb d

/-- The token that stands in row `i` of the segment from `s` up to `e`: row 511 holds the last one. -/
def src (s e : ℕ) (i : Fin 512) : Fin 4096 :=
  ⟨(if i.val = 511 then e - 1 else s + i.val) % 4096, Nat.mod_lt _ (by omega)⟩

/-- The hidden rows of the segment from `s` up to `e`: its embedded tokens, and below them the embedding of a row of
    zeros. -/
def hidden (s e : ℕ) (tok : Fin 4096 → Fin 256 → EReal) (pb : Fin 256 → EReal) (i : Fin 512) (d : Fin 256) : EReal :=
  if i.val < e - s then tok (src s e i) d else pb d

/-- Rows through a square matrix. -/
def lin (h : Fin 512 → Fin 256 → EReal) (W : Fin 256 → Fin 256 → EReal) (i : Fin 512) (d : Fin 256) : EReal :=
  ∑ c : Fin 256, h i c * W c d

/-- Column `c` of head `n`. -/
def col (n : Fin 4) (c : Fin 64) : Fin 256 := ⟨n.val * 64 + c.val, by omega⟩

/-- Every column is a column of a head. -/
theorem col_surj (c : Fin 256) : ∃ n j, c = col n j :=
  ⟨⟨c.val / 64, by omega⟩, ⟨c.val % 64, by omega⟩, Fin.ext (by simp only [col]; omega)⟩

/-- The product of query row `i` and key row `t` in head `n`. -/
def score (q k : Fin 512 → Fin 256 → EReal) (n : Fin 4) (i t : Fin 512) : EReal :=
  ∑ c : Fin 64, q i (col n c) * k t (col n c)

/-- The attention with the bias inside the exponential and one division. -/
def mixOnce (q k v : Fin 512 → Fin 256 → EReal) (bias : Fin 512 → EReal) (n : Fin 4) (i : Fin 512) (j : Fin 64) : EReal :=
  Ideal.div (∑ t : Fin 512, Ideal.exp (score q k n i t + bias t) * v t (col n j))
    (∑ t : Fin 512, Ideal.exp (score q k n i t + bias t))

/-- The attention as a softmax: `l` the masked logits of the row, the greatest one subtracted, every weight divided. -/
def softmaxMix (l : Fin 512 → EReal) (v : Fin 512 → EReal) : EReal :=
  ∑ t : Fin 512, Ideal.div (Ideal.exp (l t - Finset.univ.fold max ⊥ l))
    (∑ u : Fin 512, Ideal.exp (l u - Finset.univ.fold max ⊥ l)) * v t

/-- The logits of row `i` in head `n`: an eighth of the scores, and −∞ from row `len` on. -/
def logits (len : ℕ) (q k : Fin 512 → Fin 256 → EReal) (n : Fin 4) (i t : Fin 512) : EReal :=
  if t.val < len then Ideal.div (score q k n i t) ((8 : ℝ) : EReal) else ⊥

/-- A function of the heads and their columns, as one of all columns. -/
def byHead (f : Fin 4 → Fin 64 → EReal) (c : Fin 256) : EReal := f ⟨c.val / 64, by omega⟩ ⟨c.val % 64, by omega⟩

theorem byHead_col (f : Fin 4 → Fin 64 → EReal) (n : Fin 4) (j : Fin 64) : byHead f (col n j) = f n j := by
  unfold byHead col
  congr 1 <;> exact Fin.ext (by simp only []; omega)

/-- A row's attention results `A` through the output layer, added to the row. -/
def box (h : Fin 512 → Fin 256 → EReal) (A : Fin 256 → EReal) (Wo : Fin 256 → Fin 256 → EReal) (i : Fin 512)
    (d : Fin 256) : EReal :=
  h i d + ∑ c : Fin 256, A c * Wo c d

/-- The box features of a segment of `len` rows with the weights in the kernel's form … -/
def boxOnce (len : ℕ) (h : Fin 512 → Fin 256 → EReal) (Wq Wk Wv Wo : Fin 256 → Fin 256 → EReal) (i : Fin 512) (d : Fin 256) :
    EReal :=
  box h (byHead fun n j => mixOnce (fun r c => lin h Wq r c * Ideal.ofBits .f32 0x3E000000#32) (lin h Wk) (lin h Wv)
    (fun t => if t.val < len then 0 else ⊥) n i j) Wo i d

/-- … and in the reference's. -/
def boxSoftmax (len : ℕ) (h : Fin 512 → Fin 256 → EReal) (Wq Wk Wv Wo : Fin 256 → Fin 256 → EReal) (i : Fin 512)
    (d : Fin 256) : EReal :=
  box h (byHead fun n j => softmaxMix (logits len (lin h Wq) (lin h Wk) n i) (fun t => lin h Wv t (col n j))) Wo i d

/-- A row through an output head. -/
def out {n : ℕ} (x : Fin 256 → EReal) (W : Fin 256 → Fin n → EReal) (b : Fin n → EReal) (j : Fin n) : EReal :=
  ∑ c : Fin 256, x c * W c j + b j

end Cert.Spec

end
-- ==== Proof.KernelIdeal.Box.lean ====
/- The two results of the kernel's block at an element, from the hidden rows, the queries and the keys. -/
module

public import proofs.«01_k».proof.Proof.KernelIdeal.Head
public import proofs.«01_k».proof.Proof.Spec

@[expose] public section

noncomputable section

namespace Cert.KernelIdeal.Box

open Cert.KernelIdeal Cert.KernelIdeal.Gen
open Idealize.ShloMosaic

/-- An array of rows, as a function of the row and the column. -/
def rows {m n : ℕ} (x : FVec Ideal ⟨2, ![m, n]⟩ .f32) (i : Fin m) (c : Fin n) : EReal := x (ix2 i c)

/-- A vector, as a function of its coordinate. -/
def vec {n : ℕ} (x : FVec Ideal ⟨1, ![n]⟩ .f32) (c : Fin n) : EReal := x (ix1 c)

theorem cols0 (x : FVec Ideal S512x256 .f32) (i : Fin 512) (c : Fin 64) :
    extractStridedSlice S512x64 ![0, 0] x slices_S512x256_o0_0_S512x64 (ix2 i c) = rows x i (Spec.col 0 c) :=
  extractStridedSlice_apply _ _ _ _ _ (Fin.forall_fin_two.2 ⟨(Nat.zero_add _).symm, rfl⟩)

theorem cols1 (x : FVec Ideal S512x256 .f32) (i : Fin 512) (c : Fin 64) :
    extractStridedSlice S512x64 ![0, 64] x slices_S512x256_o0_64_S512x64 (ix2 i c) = rows x i (Spec.col 1 c) :=
  extractStridedSlice_apply _ _ _ _ _ (Fin.forall_fin_two.2 ⟨(Nat.zero_add _).symm, rfl⟩)

theorem cols2 (x : FVec Ideal S512x256 .f32) (i : Fin 512) (c : Fin 64) :
    extractStridedSlice S512x64 ![0, 128] x slices_S512x256_o0_128_S512x64 (ix2 i c) = rows x i (Spec.col 2 c) :=
  extractStridedSlice_apply _ _ _ _ _ (Fin.forall_fin_two.2 ⟨(Nat.zero_add _).symm, rfl⟩)

theorem cols3 (x : FVec Ideal S512x256 .f32) (i : Fin 512) (c : Fin 64) :
    extractStridedSlice S512x64 ![0, 192] x slices_S512x256_o0_192_S512x64 (ix2 i c) = rows x i (Spec.col 3 c) :=
  extractStridedSlice_apply _ _ _ _ _ (Fin.forall_fin_two.2 ⟨(Nat.zero_add _).symm, rfl⟩)

/-- The column of ones. -/
theorem ones_apply (t : Fin 512) : (k0_pay13 (F := Ideal)) (ix2 t (0 : Fin 1)) = 1 := by
  pointwise [k0_pay13]

/-- Head `n` of the printed block. -/
def headOf (n : Fin 4) (q k v : FVec Ideal S512x256 .f32) (bias : FVec Ideal S512x1 .f32) : FVec Ideal S512x64 .f32 :=
  match n with
  | 0 => Head.head (extractStridedSlice S512x64 ![0, 0] q slices_S512x256_o0_0_S512x64)
      (extractStridedSlice S512x64 ![0, 0] k slices_S512x256_o0_0_S512x64)
      (extractStridedSlice S512x64 ![0, 0] v slices_S512x256_o0_0_S512x64) (k0_pay13 (F := Ideal)) bias
  | 1 => Head.head (extractStridedSlice S512x64 ![0, 64] q slices_S512x256_o0_64_S512x64)
      (extractStridedSlice S512x64 ![0, 64] k slices_S512x256_o0_64_S512x64)
      (extractStridedSlice S512x64 ![0, 64] v slices_S512x256_o0_64_S512x64) (k0_pay13 (F := Ideal)) bias
  | 2 => Head.head (extractStridedSlice S512x64 ![0, 128] q slices_S512x256_o0_128_S512x64)
      (extractStridedSlice S512x64 ![0, 128] k slices_S512x256_o0_128_S512x64)
      (extractStridedSlice S512x64 ![0, 128] v slices_S512x256_o0_128_S512x64) (k0_pay13 (F := Ideal)) bias
  | 3 => Head.head (extractStridedSlice S512x64 ![0, 192] q slices_S512x256_o0_192_S512x64)
      (extractStridedSlice S512x64 ![0, 192] k slices_S512x256_o0_192_S512x64)
      (extractStridedSlice S512x64 ![0, 192] v slices_S512x256_o0_192_S512x64) (k0_pay13 (F := Ideal)) bias

theorem headOf_apply (n : Fin 4) (q k v : FVec Ideal S512x256 .f32) (bias : FVec Ideal S512x1 .f32) (i : Fin 512)
    (j : Fin 64) : headOf n q k v bias (ix2 i j)
      = Spec.mixOnce (rows q) (rows k) (rows v) (fun t => bias (ix2 t (0 : Fin 1))) n i j := by
  unfold Spec.mixOnce Spec.score
  match n with
  | 0 => exact (Head.head_apply _ _ _ _ _ ones_apply i j).trans (by simp only [cols0])
  | 1 => exact (Head.head_apply _ _ _ _ _ ones_apply i j).trans (by simp only [cols1])
  | 2 => exact (Head.head_apply _ _ _ _ _ ones_apply i j).trans (by simp only [cols2])
  | 3 => exact (Head.head_apply _ _ _ _ _ ones_apply i j).trans (by simp only [cols3])

/-- The four heads, side by side. -/
def heads (q k v : FVec Ideal S512x256 .f32) (bias : FVec Ideal S512x1 .f32) : FVec Ideal S512x256 .f32 :=
  concatenate S512x256 1 [⟨S512x64, headOf 0 q k v bias⟩, ⟨S512x64, headOf 1 q k v bias⟩,
    ⟨S512x64, headOf 2 q k v bias⟩, ⟨S512x64, headOf 3 q k v bias⟩]
    concatenates_S512x64_S512x64_S512x64_S512x64_S512x256_d1

theorem heads_apply (q k v : FVec Ideal S512x256 .f32) (bias : FVec Ideal S512x1 .f32) (i : Fin 512) (n : Fin 4)
    (j : Fin 64) : rows (heads q k v bias) i (Spec.col n j)
      = Spec.mixOnce (rows q) (rows k) (rows v) (fun t => bias (ix2 t (0 : Fin 1))) n i j := by
  rw [← headOf_apply]
  exact concatenate_ofFn_apply (t := S512x256) (s₁ := S512x64) 1 (fun n : Fin 4 => headOf n q k v bias)
    concatenates_S512x64_S512x64_S512x64_S512x64_S512x256_d1 rfl 64 rfl (ix2 i (Spec.col n j)) n
    (by show (n.val * 64 + j.val) / 64 = n.val; omega) (ix2 i j)
    (by show j.val = (n.val * 64 + j.val) % 64; omega)
    (Fin.forall_fin_two.2 ⟨fun _ => rfl, fun h => (h rfl).elim⟩)

/-- The box features of the block. -/
def boxes (len : BitVec 32) (h q k : FVec Ideal S512x256 .f32) (x9 x10 : Vec Ideal S256x256 .f32) :
    FVec Ideal S512x256 .f32 :=
  addf h (matmul (φ₂ := .f32) dot_S512x256_S256x256_S512x256_1_0_0_1_n_n none
    (heads q k (k0_pay12 h x9) (k0_pay14 (F := Ideal) (k0_pay7 len))) x10 (constant S512x256 .f32 0x00000000#32))

theorem boxes_eq (len : BitVec 32) (h q k : FVec Ideal S512x256 .f32) (x9 x10 : Vec Ideal S256x256 .f32) :
    k0_pay1 h (k0_pay12 h x9) k0_pay13 (k0_pay14 (k0_pay7 len)) (k0_pay15 (k0_pay7 len) h q k x9)
      (k0_pay16 (k0_pay7 len) h q k x9) (k0_pay17 (k0_pay7 len) h q k x9) (k0_pay18 q) (k0_pay19 k) x10
      = boxes len h q k x9 x10 := rfl

theorem boxes_apply (len : BitVec 32) (h q k : FVec Ideal S512x256 .f32) (x9 x10 : Vec Ideal S256x256 .f32) (i : Fin 512)
    (d : Fin 256) : rows (boxes len h q k x9 x10) i d
      = Spec.box (rows h) (rows (heads q k (k0_pay12 h x9) (k0_pay14 (F := Ideal) (k0_pay7 len))) i) (rows x10) i d := by
  unfold boxes
  generalize heads q k (k0_pay12 h x9) (k0_pay14 (F := Ideal) (k0_pay7 len)) = A
  pointwise [Spec.box, rows]

theorem value_apply (h : FVec Ideal S512x256 .f32) (x9 : Vec Ideal S256x256 .f32) :
    rows (k0_pay12 h x9) = Spec.lin (rows h) (rows x9) := by
  funext i d
  pointwise [Spec.lin, rows, k0_pay12]

/-- The first result at an element. -/
theorem coordsOf_apply (len : BitVec 32) (h q k : FVec Ideal S512x256 .f32) (x9 x10 : Vec Ideal S256x256 .f32)
    (x13 : Vec Ideal S256x6 .f32) (x14 : Vec Ideal S6 .f32) (i : Fin 512) (j : Fin 6) :
    Block.coordsOf len h q k x9 x10 x13 x14 (ix3 (0 : Fin 1) i j)
      = Spec.out (rows (boxes len h q k x9 x10) i) (rows x13) (vec x14) j := by
  unfold Block.coordsOf k0_pay2
  rw [boxes_eq]
  generalize boxes len h q k x9 x10 = A
  pointwise [Spec.out, rows, vec]

/-- The second result at an element. -/
theorem classesOf_apply (len : BitVec 32) (h q k : FVec Ideal S512x256 .f32) (x9 x10 : Vec Ideal S256x256 .f32)
    (x11 : Vec Ideal S256x18 .f32) (x12 : Vec Ideal S18 .f32) (i : Fin 512) (j : Fin 18) :
    Block.classesOf len h q k x9 x10 x11 x12 (ix3 (0 : Fin 1) i j)
      = Spec.out (rows (boxes len h q k x9 x10) i) (rows x11) (vec x12) j := by
  unfold Block.classesOf k0_pay3
  rw [boxes_eq]
  generalize boxes len h q k x9 x10 = A
  pointwise [Spec.out, rows, vec]

end Cert.KernelIdeal.Box

end
-- ==== Proof.KernelIdeal.Hidden.lean ====
/- The hidden rows of the kernel's block at an element: token `s + i` of a segment that begins at `s`, the last token of a
   long segment in row 511, and the embedding of an empty row below the segment. -/
module

public import proofs.«01_k».proof.Proof.KernelIdeal.Box
public import Idealize.ShloMosaic.Lib.KernelVsHost

@[expose] public section

noncomputable section

namespace Cert.KernelIdeal.Hidden

open Cert.KernelIdeal Cert.KernelIdeal.Gen Cert.KernelIdeal.Box
open Idealize.ShloMosaic

/-- The embedding of 520 rows, as printed. -/
def embed520 (f : FVec Ideal S520x256 .f32) (x : FVec Ideal S520x3 .f32) (W : FVec Ideal S256x256 .f32) (b : FVec Ideal S256 .f32)
    (P : FVec Ideal S3x256 .f32) (pb : FVec Ideal S256 .f32) : FVec Ideal S520x256 .f32 :=
  addf (addf (maximumf (k0_pay4 f W b) k0_pay5)
      (matmul dot_S520x3_S3x256_S520x256_1_0_0_1_n_n none x P (constant S520x256 .f32 0x00000000#32)))
    (broadcastTo S520x256 (shapeCast S1x256 pb shapeCasts_S256_S1x256) broadcasts_S1x256_S520x256)

theorem embed520_apply (f : FVec Ideal S520x256 .f32) (x : FVec Ideal S520x3 .f32) (W : FVec Ideal S256x256 .f32)
    (b : FVec Ideal S256 .f32) (P : FVec Ideal S3x256 .f32) (pb : FVec Ideal S256 .f32) (r : Fin 520) (d : Fin 256) :
    embed520 f x W b P pb (ix2 r d) = Spec.embed (rows f r) (rows x r) (rows W) (vec b) (rows P) (vec pb) d := by
  pointwise [embed520, k0_pay4, k0_pay5, Spec.embed, rows, vec]

/-- The embedding of eight rows, as printed. -/
def embed8 (f : FVec Ideal S8x256 .f32) (x : FVec Ideal S8x3 .f32) (W : FVec Ideal S256x256 .f32) (b : FVec Ideal S256 .f32)
    (P : FVec Ideal S3x256 .f32) (pb : FVec Ideal S256 .f32) : FVec Ideal S8x256 .f32 :=
  addf (addf (maximumf (addf (matmul dot_S8x256_S256x256_S8x256_1_0_0_1_n_n none f W (constant S8x256 .f32 0x00000000#32))
        (broadcastTo S8x256 (shapeCast S1x256 b shapeCasts_S256_S1x256) broadcasts_S1x256_S8x256))
        (broadcast S8x256 (Scalar.ofBits .f32 0x00000000#32)))
      (matmul dot_S8x3_S3x256_S8x256_1_0_0_1_n_n none x P (constant S8x256 .f32 0x00000000#32)))
    (broadcastTo S8x256 (shapeCast S1x256 pb shapeCasts_S256_S1x256) broadcasts_S1x256_S8x256)

theorem embed8_apply (f : FVec Ideal S8x256 .f32) (x : FVec Ideal S8x3 .f32) (W : FVec Ideal S256x256 .f32)
    (b : FVec Ideal S256 .f32) (P : FVec Ideal S3x256 .f32) (pb : FVec Ideal S256 .f32) (r : Fin 8) (d : Fin 256) :
    embed8 f x W b P pb (ix2 r d) = Spec.embed (rows f r) (rows x r) (rows W) (vec b) (rows P) (vec pb) d := by
  pointwise [embed8, Spec.embed, rows, vec]

/-- The choice among the three kinds of row, as printed. -/
theorem choice_apply (len : BitVec 32) (roll : FVec Ideal S512x256 .f32) (valid : IVec S512x1 1) (last : IVec S8x1 1)
    (f : FVec Ideal S8x256 .f32) (x : FVec Ideal S8x3 .f32) (W : FVec Ideal S256x256 .f32) (b : FVec Ideal S256 .f32)
    (P : FVec Ideal S3x256 .f32) (pb : FVec Ideal S256 .f32) (i : Fin 512) (d : Fin 256) :
    k0_pay9 len pb roll (iota .tc S512x1 32 [0] iota_S512x1_d0_w32) valid last f x W b P (ix2 i d)
      = Scalar.select (IntOp.andi (Scalar.cmpi .sgt len 512#32) (IntOp.cmpi .eq (BitVec.ofNat 32 i.val) 511#32))
          (∑ r : Fin 8, Scalar.select (last (ix2 r (0 : Fin 1))) (embed8 f x W b P pb (ix2 r d)) 0)
          (Scalar.select (valid (ix2 i (0 : Fin 1))) (roll (ix2 i d)) (vec pb d)) := by
  have e : k0_pay9 len pb roll (iota .tc S512x1 32 [0] iota_S512x1_d0_w32) valid last f x W b P
      = let hl := shapeCast S1x256 (multiReduction .add [0] S256 (select (broadcastTo S8x256 (shapeCast S8x1 last shapeCasts_S8x1_S8x1) broadcasts_S8x1_S8x256)
            (embed8 f x W b P pb) (broadcast S8x256 (Scalar.ofBits .f32 0x00000000#32))) 0x00000000#32 reduces_S8x256_S256 (.inl rfl) rfl) shapeCasts_S256_S1x256
        select (broadcastTo S512x256 (shapeCast S512x1 (andi (broadcast S512x1 (Scalar.cmpi .sgt len 512#32))
            (cmpi .eq (iota .tc S512x1 32 [0] iota_S512x1_d0_w32) (broadcast S512x1 511#32))) shapeCasts_S512x1_S512x1) broadcasts_S512x1_S512x256)
          (broadcastTo S512x256 (shapeCast S1x256 hl shapeCasts_S1x256_S1x256) broadcasts_S1x256_S512x256)
          (select (broadcastTo S512x256 (shapeCast S512x1 valid shapeCasts_S512x1_S512x1) broadcasts_S512x1_S512x256) roll
            (broadcastTo S512x256 (shapeCast S1x256 pb shapeCasts_S256_S1x256) broadcasts_S1x256_S512x256)) := rfl
  rw [e]
  generalize embed8 f x W b P pb = E
  pointwise [vec]

/-! ### The rows that are loaded -/

theorem flatWin_row (n : ℕ) (x1 : Vec Ideal S4096x256 .f32) (r : Fin 520) (t : Fin 4096) (h : Words.base n + r.val = t.val) :
    rows (Block.flatWin n x1) r = rows x1 t := by
  funext c
  refine congrArg x1 (funext fun a => Fin.ext ?_)
  match a with
  | ⟨0, _⟩ => show Words.base n + 1 * r.val = t.val; omega
  | ⟨1, _⟩ => show 0 + 1 * c.val = c.val; omega

theorem xyzWin_row (n : ℕ) (x2 : Vec Ideal S4096x3 .f32) (r : Fin 520) (t : Fin 4096) (h : Words.base n + r.val = t.val) :
    rows (Block.xyzWin n x2) r = rows x2 t := by
  funext c
  refine congrArg x2 (funext fun a => Fin.ext ?_)
  match a with
  | ⟨0, _⟩ => show Words.base n + 1 * r.val = t.val; omega
  | ⟨1, _⟩ => show 0 + 1 * c.val = c.val; omega

theorem flat8_row (n : ℕ) (hn : n ≤ 4096) (x1 : Vec Ideal S4096x256 .f32) (r : Fin 8) (t : Fin 4096)
    (h : Words.group n + r.val = t.val) : rows (Block.flat8 n hn x1) r = rows x1 t := by
  funext c
  refine congrArg x1 (funext fun a => Fin.ext ?_)
  match a with
  | ⟨0, _⟩ => show Words.group n + 1 * r.val = t.val; omega
  | ⟨1, _⟩ => show 0 + 1 * c.val = c.val; omega

theorem xyz8_row (n : ℕ) (hn : n ≤ 4096) (x2 : Vec Ideal S4096x3 .f32) (r : Fin 8) (t : Fin 4096)
    (h : Words.group n + r.val = t.val) : rows (Block.xyz8 n hn x2) r = rows x2 t := by
  funext c
  refine congrArg x2 (funext fun a => Fin.ext ?_)
  match a with
  | ⟨0, _⟩ => show Words.group n + 1 * r.val = t.val; omega
  | ⟨1, _⟩ => show 0 + 1 * c.val = c.val; omega

/-! ### The words that choose -/

/-- The words that the choices read, for a segment from `s` up to `e`. -/
structure Seg (s e : BitVec 32) : Prop where
  lt : s.toNat < e.toNat
  le : e.toNat ≤ 4096

theorem Seg.len {s e : BitVec 32} (h : Seg s e) : (Scalar.subi e s).toNat = e.toNat - s.toNat := by
  show (e - s).toNat = _
  have := h.lt; have := h.le
  rw [BitVec.toNat_sub]; omega

/-- A row is below the segment's length exactly if its bit is set. -/
theorem valid_apply {s e : BitVec 32} (h : Seg s e) (i : Fin 512) :
    k0_pay7 (Scalar.subi e s) (ix2 i (0 : Fin 1)) = if i.val < e.toNat - s.toNat then 1#1 else 0#1 := by
  have hl := h.len
  have := h.le
  have e1 : k0_pay7 (Scalar.subi e s) (ix2 i (0 : Fin 1))
      = BitVec.ofBool ((BitVec.ofNat 32 i.val).slt (Scalar.minsi (Scalar.subi e s) 512#32)) := by
    pointwise [k0_pay7]
    rfl
  have hm : (Scalar.minsi (Scalar.subi e s) 512#32).toNat = min (e.toNat - s.toNat) 512 := by
    generalize Scalar.subi e s = w at hl
    show (IntOp.minsi w 512#32).toNat = _
    unfold IntOp.minsi
    split <;> rename_i hc <;> simp only [BitVec.slt, BitVec.sle, BitVec.toInt, BitVec.toNat_ofNat, decide_eq_true_eq] at hc <;>
      (try simp only [BitVec.toNat_ofNat]) <;> omega
  rw [e1]
  generalize Scalar.minsi (Scalar.subi e s) 512#32 = w at hm
  have hs : (BitVec.ofNat 32 i.val).slt w = decide (i.val < e.toNat - s.toNat) := by
    simp only [BitVec.slt, BitVec.toInt, BitVec.toNat_ofNat]
    have := i.isLt
    congr 1
    apply propext
    constructor <;> intro <;> omega
  rw [hs]
  by_cases hi : i.val < e.toNat - s.toNat <;> simp [hi]

/-- The row of a long segment that its last token takes. -/
theorem long_apply {s e : BitVec 32} (h : Seg s e) (i : Fin 512) :
    IntOp.andi (Scalar.cmpi .sgt (Scalar.subi e s) 512#32) (IntOp.cmpi .eq (BitVec.ofNat 32 i.val) 511#32)
      = if 512 < e.toNat - s.toNat ∧ i.val = 511 then 1#1 else 0#1 := by
  have hl := h.len
  have := h.le
  have := i.isLt
  generalize Scalar.subi e s = w at hl
  have h1 : Scalar.cmpi .sgt w 512#32 = BitVec.ofBool (decide (512 < e.toNat - s.toNat)) := by
    show BitVec.ofBool ((512#32).slt w) = _
    congr 1
    simp only [BitVec.slt, BitVec.toInt, BitVec.toNat_ofNat]
    congr 1
    apply propext
    constructor <;> intro <;> omega
  have h2 : IntOp.cmpi .eq (BitVec.ofNat 32 i.val) 511#32 = BitVec.ofBool (decide (i.val = 511)) := by
    show BitVec.ofBool (BitVec.ofNat 32 i.val == 511#32) = _
    congr 1
    rw [Bool.eq_iff_iff, beq_iff_eq, decide_eq_true_eq, ← BitVec.toNat_inj]
    simp only [BitVec.toNat_ofNat]
    omega
  rw [h1, h2]
  by_cases ha : 512 < e.toNat - s.toNat <;> by_cases hb : i.val = 511 <;> simp [ha, hb, IntOp.andi]

/-- The bit of the group's row that holds the last token. -/
theorem last_apply {s e : BitVec 32} (h : Seg s e) (r : Fin 8) :
    k0_pay8 (F := Ideal) e (ix2 r (0 : Fin 1)) = if Words.group e.toNat + r.val = e.toNat - 1 then 1#1 else 0#1 := by
  have h1 := h.lt
  have h2 := h.le
  have hg := Words.mult2_eq e h2
  have e1 : k0_pay8 (F := Ideal) e (ix2 r (0 : Fin 1))
      = BitVec.ofBool (BitVec.ofNat 32 r.val == Scalar.subi (Scalar.maxsi (Scalar.subi e 1#32) 0#32) (k0_mult2 e)) := by
    have : k0_pay8 (F := Ideal) e = cmpi .eq (iota .tc S8x1 32 [0] iota_S8x1_d0_w32)
        (broadcast S8x1 (Scalar.subi (Scalar.maxsi (Scalar.subi e 1#32) 0#32) (k0_mult2 e))) := rfl
    rw [this]
    generalize Scalar.subi (Scalar.maxsi (Scalar.subi e 1#32) 0#32) (k0_mult2 e) = w
    pointwise
    rfl
  have hm : (Scalar.maxsi (Scalar.subi e 1#32) 0#32).toNat = e.toNat - 1 := by
    have hs : (Scalar.subi e 1#32).toNat = e.toNat - 1 := by
      show (e - 1#32).toNat = _
      rw [BitVec.toNat_sub, BitVec.toNat_ofNat]; omega
    generalize Scalar.subi e 1#32 = w at hs
    show (IntOp.maxsi w 0#32).toNat = _
    unfold IntOp.maxsi
    split <;> rename_i hc <;> simp only [BitVec.slt, BitVec.sle, BitVec.toInt, BitVec.toNat_ofNat, decide_eq_true_eq] at hc <;>
      (try simp only [BitVec.toNat_ofNat]) <;> omega
  have hd : (Scalar.subi (Scalar.maxsi (Scalar.subi e 1#32) 0#32) (k0_mult2 e)).toNat = e.toNat - 1 - Words.group e.toNat := by
    show (Scalar.maxsi (Scalar.subi e 1#32) 0#32 - k0_mult2 e).toNat = _
    rw [BitVec.toNat_sub, hm, hg]; unfold Words.group; omega
  rw [e1]
  generalize Scalar.subi (Scalar.maxsi (Scalar.subi e 1#32) 0#32) (k0_mult2 e) = w at hd
  have hb : (BitVec.ofNat 32 r.val == w) = decide (Words.group e.toNat + r.val = e.toNat - 1) := by
    rw [Bool.eq_iff_iff, beq_iff_eq, decide_eq_true_eq, ← BitVec.toNat_inj]
    have := r.isLt
    simp only [BitVec.toNat_ofNat]
    have : Words.group e.toNat ≤ e.toNat - 1 := by unfold Words.group; omega
    omega
  rw [hb]
  by_cases hi : Words.group e.toNat + r.val = e.toNat - 1 <;> simp [hi]

/-! ### The hidden rows -/

/-- The printed roll, on the printed embedding of the window. -/
theorem rolled_eq (s : BitVec 32) (x1 : Vec Ideal S4096x256 .f32) (x2 : Vec Ideal S4096x3 .f32) (x3 : Vec Ideal S256x256 .f32)
    (x4 : Vec Ideal S256 .f32) (x5 : Vec Ideal S3x256 .f32) (x6 : Vec Ideal S256 .f32) :
    Block.rolled s x1 x2 x3 x4 x5 x6
      = extractStridedSlice S512x256 ![0, 0] (dynamicRotate 0 (Scalar.subi 520#32 (Scalar.subi s (k0_mult1 s))) none
          (embed520 (Block.flatWin s.toNat x1) (Block.xyzWin s.toNat x2) x3 x4 x5 x6) rotates_S520x256_d0)
          slices_S520x256_o0_0_S512x256 := rfl

/-- A token's embedding, from the arrays. -/
def tok (x1 : Vec Ideal S4096x256 .f32) (x2 : Vec Ideal S4096x3 .f32) (x3 : Vec Ideal S256x256 .f32)
    (x4 : Vec Ideal S256 .f32) (x5 : Vec Ideal S3x256 .f32) (x6 : Vec Ideal S256 .f32) (t : Fin 4096) (d : Fin 256) : EReal :=
  Spec.embed (rows x1 t) (rows x2 t) (rows x3) (vec x4) (rows x5) (vec x6) d

/-- The rolled window has the segment's token `i` in row `i`. -/
theorem rolled_apply (s : BitVec 32) (x1 : Vec Ideal S4096x256 .f32) (x2 : Vec Ideal S4096x3 .f32) (x3 : Vec Ideal S256x256 .f32)
    (x4 : Vec Ideal S256 .f32) (x5 : Vec Ideal S3x256 .f32) (x6 : Vec Ideal S256 .f32) (i : Fin 512) (d : Fin 256)
    (t : Fin 4096) (ht : s.toNat + i.val = t.val) : Block.rolled s x1 x2 x3 x4 x5 x6 (ix2 i d) = tok x1 x2 x3 x4 x5 x6 t d := by
  have hi := i.isLt
  have htl := t.isLt
  have hb := Words.mult1_eq s (by omega)
  have hw : (Scalar.subi s (k0_mult1 s)).toNat = s.toNat - Words.base s.toNat := by
    show (s - k0_mult1 s).toNat = _
    rw [BitVec.toNat_sub, hb]; unfold Words.base; omega
  have hr : (Scalar.subi 520#32 (Scalar.subi s (k0_mult1 s))).toNat = 520 - (s.toNat - Words.base s.toNat) := by
    generalize Scalar.subi s (k0_mult1 s) = w at hw
    show (520#32 - w).toNat = _
    rw [BitVec.toNat_sub, hw, BitVec.toNat_ofNat]; unfold Words.base; omega
  have hlt : s.toNat + i.val - Words.base s.toNat < 520 := by unfold Words.base; omega
  have hle : Words.base s.toNat ≤ s.toNat := by unfold Words.base; omega
  rw [rolled_eq]
  generalize Scalar.subi 520#32 (Scalar.subi s (k0_mult1 s)) = w at hr
  refine (extractStridedSlice_apply _ _ _ _ (ix2 (⟨i.val, by omega⟩ : Fin 520) d)
    (Fin.forall_fin_two.2 ⟨(Nat.zero_add _).symm, (Nat.zero_add _).symm⟩)).trans ?_
  refine (dynamicRotate_apply (s := S520x256) (0 : Fin 2) w _ rotates_S520x256_d0 (ix2 (⟨i.val, by omega⟩ : Fin 520) d)
    (ix2 (⟨s.toNat + i.val - Words.base s.toNat, hlt⟩ : Fin 520) d) (Fin.forall_fin_two.2 ⟨?_, rfl⟩)).trans ?_
  · show s.toNat + i.val - Words.base s.toNat = (i.val + 520 - w.toNat % 520) % 520
    rw [hr]
    have : s.toNat - Words.base s.toNat < 520 := by unfold Words.base; omega
    omega
  · rw [embed520_apply, flatWin_row _ _ _ t (by show Words.base s.toNat + (s.toNat + i.val - Words.base s.toNat) = t.val; omega),
      xyzWin_row _ _ _ t (by show Words.base s.toNat + (s.toNat + i.val - Words.base s.toNat) = t.val; omega)]
    rfl

/-- The sum over the group picks its row with the last token. -/
theorem last_row {s e : BitVec 32} (h : Seg s e) (he : e.toNat ≤ 4096) (x1 : Vec Ideal S4096x256 .f32) (x2 : Vec Ideal S4096x3 .f32) (x3 : Vec Ideal S256x256 .f32)
    (x4 : Vec Ideal S256 .f32) (x5 : Vec Ideal S3x256 .f32) (x6 : Vec Ideal S256 .f32) (d : Fin 256) (t : Fin 4096)
    (ht : t.val = e.toNat - 1) :
    ∑ r : Fin 8, Scalar.select (k0_pay8 (F := Ideal) e (ix2 r (0 : Fin 1)))
      (embed8 (Block.flat8 e.toNat he x1) (Block.xyz8 e.toNat he x2) x3 x4 x5 x6 (ix2 r d)) 0 = tok x1 x2 x3 x4 x5 x6 t d := by
  have h1 := h.lt
  have hg : Words.group e.toNat ≤ e.toNat - 1 ∧ e.toNat - 1 < Words.group e.toNat + 8 := by unfold Words.group; omega
  rw [Finset.sum_eq_single (⟨e.toNat - 1 - Words.group e.toNat, by omega⟩ : Fin 8)]
  · rw [last_apply h, if_pos (by show Words.group e.toNat + (e.toNat - 1 - Words.group e.toNat) = _; omega), embed8_apply,
      flat8_row _ _ _ _ t (by show Words.group e.toNat + (e.toNat - 1 - Words.group e.toNat) = _; omega),
      xyz8_row _ _ _ _ t (by show Words.group e.toNat + (e.toNat - 1 - Words.group e.toNat) = _; omega)]
    rfl
  · intro r _ hr
    rw [last_apply h, if_neg (fun q => hr (Fin.ext (by show r.val = e.toNat - 1 - Words.group e.toNat; omega)))]
    rfl
  · exact fun q => (q (Finset.mem_univ _)).elim

/-- The hidden rows of the block are those of the segment. -/
theorem hidden_apply {s e : BitVec 32} (h : Seg s e) (he : e.toNat ≤ 4096) (x1 : Vec Ideal S4096x256 .f32)
    (x2 : Vec Ideal S4096x3 .f32) (x3 : Vec Ideal S256x256 .f32) (x4 : Vec Ideal S256 .f32) (x5 : Vec Ideal S3x256 .f32)
    (x6 : Vec Ideal S256 .f32) :
    rows (Block.hidden s e he x1 x2 x3 x4 x5 x6) = Spec.hidden s.toNat e.toNat (tok x1 x2 x3 x4 x5 x6) (vec x6) := by
  funext i d
  have h1 := h.lt
  have hi := i.isLt
  have hsrc : i.val < e.toNat - s.toNat → (Spec.src s.toNat e.toNat i).val = if i.val = 511 then e.toNat - 1 else s.toNat + i.val := by
    intro hlt
    show (if i.val = 511 then e.toNat - 1 else s.toNat + i.val) % 4096 = _
    split <;> omega
  show Block.hidden s e he x1 x2 x3 x4 x5 x6 (ix2 i d) = _
  unfold Block.hidden Spec.hidden
  rw [choice_apply, valid_apply h, long_apply h]
  by_cases hv : i.val < e.toNat - s.toNat
  · have hq := hsrc hv
    rw [if_pos hv, if_pos hv]
    by_cases hl : 512 < e.toNat - s.toNat ∧ i.val = 511
    · rw [if_pos hl]
      rw [if_pos hl.2] at hq
      exact last_row h he x1 x2 x3 x4 x5 x6 d _ hq
    · rw [if_neg hl]
      refine rolled_apply s x1 x2 x3 x4 x5 x6 i d _ ?_
      rw [hq]; split <;> omega
  · rw [if_neg hv, if_neg hv, if_neg (by omega)]
    rfl

/-- The queries are the hidden rows through their matrix, an eighth of it. -/
theorem query_apply (s e : BitVec 32) (he : e.toNat ≤ 4096) (x1 : Vec Ideal S4096x256 .f32)
    (x2 : Vec Ideal S4096x3 .f32) (x3 : Vec Ideal S256x256 .f32) (x4 : Vec Ideal S256 .f32) (x5 : Vec Ideal S3x256 .f32)
    (x6 : Vec Ideal S256 .f32) (x7 : Vec Ideal S256x256 .f32) (i : Fin 512) (d : Fin 256) :
    rows (Block.query s e he x1 x2 x3 x4 x5 x6 x7) i d
      = Spec.lin (rows (Block.hidden s e he x1 x2 x3 x4 x5 x6)) (rows x7) i d * Ideal.ofBits .f32 0x3E000000#32 := by
  unfold Block.query k0_pay10 Block.hidden
  generalize k0_pay9 (F := Ideal) _ _ _ _ _ _ _ _ _ _ _ = H
  pointwise [Spec.lin, rows]

/-- The keys are the hidden rows through theirs. -/
theorem key_apply (s e : BitVec 32) (he : e.toNat ≤ 4096) (x1 : Vec Ideal S4096x256 .f32)
    (x2 : Vec Ideal S4096x3 .f32) (x3 : Vec Ideal S256x256 .f32) (x4 : Vec Ideal S256 .f32) (x5 : Vec Ideal S3x256 .f32)
    (x6 : Vec Ideal S256 .f32) (x8 : Vec Ideal S256x256 .f32) :
    rows (Block.key s e he x1 x2 x3 x4 x5 x6 x8) = Spec.lin (rows (Block.hidden s e he x1 x2 x3 x4 x5 x6)) (rows x8) := by
  funext i d
  unfold Block.key k0_pay11 Block.hidden
  generalize k0_pay9 (F := Ideal) _ _ _ _ _ _ _ _ _ _ _ = H
  pointwise [Spec.lin, rows]

/-- The bias of a key: nothing below the segment's length, minus infinity from there on. -/
theorem bias_apply {s e : BitVec 32} (h : Seg s e) (t : Fin 512) :
    k0_pay14 (F := Ideal) (k0_pay7 (Scalar.subi e s)) (ix2 t (0 : Fin 1)) = if t.val < e.toNat - s.toNat then (0 : EReal) else ⊥ := by
  have hv := valid_apply h t
  generalize k0_pay7 (Scalar.subi e s) = v at hv
  have e1 : k0_pay14 (F := Ideal) v (ix2 t (0 : Fin 1))
      = Scalar.select (v (ix2 t (0 : Fin 1))) (Ideal.ofBits .f32 0x00000000#32) (⊥ : EReal) := rfl
  rw [e1, hv, Ideal.ofBits_zero_f32]
  split <;> rfl

end Cert.KernelIdeal.Hidden

end
-- ==== Proof.KernelIdeal.Value.lean ====
/- The kernel's result arrays at an element: the block of the element's batch, in the words of `Spec`. -/
module

public import proofs.«01_k».proof.Proof.KernelIdeal.Run
public import proofs.«01_k».proof.Proof.KernelIdeal.Hidden
public import Idealize.ShloMosaic.Lib.Pipeline.Value

@[expose] public section

set_option maxRecDepth 8000

noncomputable section

namespace Cert.KernelIdeal.Value

open Cert.KernelIdeal Cert.KernelIdeal.Gen Cert.KernelIdeal.Run Cert.KernelIdeal.Box
open Idealize.ShloMosaic Idealize.ShloMosaic.Pipeline Idealize.SL.Sem

/-- The printed box features of a segment are those of `Spec`. -/
theorem boxes_spec {s e : BitVec 32} (h : Hidden.Seg s e) (he : e.toNat ≤ 4096) (x1 : Vec Ideal S4096x256 .f32)
    (x2 : Vec Ideal S4096x3 .f32) (x3 : Vec Ideal S256x256 .f32) (x4 : Vec Ideal S256 .f32) (x5 : Vec Ideal S3x256 .f32)
    (x6 : Vec Ideal S256 .f32) (x7 x8 x9 x10 : Vec Ideal S256x256 .f32) (i : Fin 512) :
    rows (boxes (Scalar.subi e s) (Block.hidden s e he x1 x2 x3 x4 x5 x6) (Block.query s e he x1 x2 x3 x4 x5 x6 x7)
        (Block.key s e he x1 x2 x3 x4 x5 x6 x8) x9 x10) i
      = Spec.boxOnce (e.toNat - s.toNat) (Spec.hidden s.toNat e.toNat (Hidden.tok x1 x2 x3 x4 x5 x6) (vec x6))
          (rows x7) (rows x8) (rows x9) (rows x10) i := by
  funext d
  have hq : rows (Block.query s e he x1 x2 x3 x4 x5 x6 x7)
      = fun r c => Spec.lin (rows (Block.hidden s e he x1 x2 x3 x4 x5 x6)) (rows x7) r c * Ideal.ofBits .f32 0x3E000000#32 := by
    funext r c; exact Hidden.query_apply s e he x1 x2 x3 x4 x5 x6 x7 r c
  rw [boxes_apply, Spec.boxOnce, ← Hidden.hidden_apply h he]
  refine congrArg (fun A => Spec.box _ A _ i d) (funext fun c => ?_)
  obtain ⟨n, j, rfl⟩ := Spec.col_surj c
  rw [heads_apply, Spec.byHead_col, hq, Hidden.key_apply, value_apply]
  exact congrArg (fun b => Spec.mixOnce _ _ _ b n i j) (funext fun t => Hidden.bias_apply h t)

/-- The first result of a point at an element. -/
theorem coords_spec (p : grid0.Coords) (x0 : Vec Ideal S17 .i32) (x1 : Vec Ideal S4096x256 .f32) (x2 : Vec Ideal S4096x3 .f32)
    (x3 : Vec Ideal S256x256 .f32) (x4 : Vec Ideal S256 .f32) (x5 : Vec Ideal S3x256 .f32) (x6 : Vec Ideal S256 .f32)
    (x7 x8 x9 x10 : Vec Ideal S256x256 .f32) (x11 : Vec Ideal S256x18 .f32) (x12 : Vec Ideal S18 .f32)
    (x13 : Vec Ideal S256x6 .f32) (x14 : Vec Ideal S6 .f32) (hx0 : ∀ y, BitVec.toNat (x0 y) ≤ 4096)
    (h : Hidden.Seg (Block.lo p x0) (Block.hi p x0)) (i : Fin 512) (j : Fin 6) :
    Block.coords p x0 x1 x2 x3 x4 x5 x6 x7 x8 x9 x10 x11 x12 x13 x14 hx0 (ix3 (0 : Fin 1) i j)
      = Spec.out (Spec.boxOnce ((Block.hi p x0).toNat - (Block.lo p x0).toNat)
          (Spec.hidden (Block.lo p x0).toNat (Block.hi p x0).toNat (Hidden.tok x1 x2 x3 x4 x5 x6) (vec x6))
          (rows x7) (rows x8) (rows x9) (rows x10) i) (rows x13) (vec x14) j := by
  unfold Block.coords
  rw [coordsOf_apply]
  exact congrArg (fun A => Spec.out A _ _ j) (boxes_spec h (hx0 _) x1 x2 x3 x4 x5 x6 x7 x8 x9 x10 i)

/-- The second result of a point at an element. -/
theorem classes_spec (p : grid0.Coords) (x0 : Vec Ideal S17 .i32) (x1 : Vec Ideal S4096x256 .f32) (x2 : Vec Ideal S4096x3 .f32)
    (x3 : Vec Ideal S256x256 .f32) (x4 : Vec Ideal S256 .f32) (x5 : Vec Ideal S3x256 .f32) (x6 : Vec Ideal S256 .f32)
    (x7 x8 x9 x10 : Vec Ideal S256x256 .f32) (x11 : Vec Ideal S256x18 .f32) (x12 : Vec Ideal S18 .f32)
    (x13 : Vec Ideal S256x6 .f32) (x14 : Vec Ideal S6 .f32) (hx0 : ∀ y, BitVec.toNat (x0 y) ≤ 4096)
    (h : Hidden.Seg (Block.lo p x0) (Block.hi p x0)) (i : Fin 512) (j : Fin 18) :
    Block.classes p x0 x1 x2 x3 x4 x5 x6 x7 x8 x9 x10 x11 x12 x13 x14 hx0 (ix3 (0 : Fin 1) i j)
      = Spec.out (Spec.boxOnce ((Block.hi p x0).toNat - (Block.lo p x0).toNat)
          (Spec.hidden (Block.lo p x0).toNat (Block.hi p x0).toNat (Hidden.tok x1 x2 x3 x4 x5 x6) (vec x6))
          (rows x7) (rows x8) (rows x9) (rows x10) i) (rows x11) (vec x12) j := by
  unfold Block.classes
  rw [classesOf_apply]
  exact congrArg (fun A => Spec.out A _ _ j) (boxes_spec h (hx0 _) x1 x2 x3 x4 x5 x6 x7 x8 x9 x10 i)

end Cert.KernelIdeal.Value

end
-- ==== Proof.KernelIdeal.Arrays.lean ====
/- The kernel's two result arrays: element `(b, i, j)` is element `(0, i, j)` of what the grid point of batch `b` computes
   from the whole argument arrays. -/
module

public import proofs.«01_k».proof.Proof.KernelIdeal.Value
public import Idealize.ShloMosaic.Lib.Pipeline.ValueKit

@[expose] public section

set_option maxRecDepth 8000

noncomputable section

namespace Cert.KernelIdeal.Arrays

open Cert.KernelIdeal Cert.KernelIdeal.Gen Cert.KernelIdeal.Run
open Idealize.ShloMosaic Idealize.ShloMosaic.Pipeline Idealize.SL.Sem

variable (m : (ℓ : Loc nD τ sig) → Buf (Elt Ideal) ℓ)
variable (hm : ∀ (c : Dev nD) (t : Fin cfg0.N) (y : S17.Idx), BitVec.toNat (iblk m c 0 t y : BitVec 32) ≤ 4096)

/-- The grid point of a batch. -/
def pt (b : Fin 16) : Fin cfg0.N := ⟨b.val, b.isLt⟩

theorem coords_pt : ∀ b : Fin 16, (grid0.coords (pt b) 0).val = b.val := by decide +kernel

theorem inj15 : ∀ t t' : Fin cfg0.N, win0_15.index t = win0_15.index t' → t = t' :=
  (by decide +kernel : ∀ t t' : Fin grid0.N, win0_15.index t = win0_15.index t' → t = t')

theorem inj16 : ∀ t t' : Fin cfg0.N, win0_16.index t = win0_16.index t' → t = t' :=
  (by decide +kernel : ∀ t t' : Fin grid0.N, win0_16.index t = win0_16.index t' → t = t')

theorem at15 : ∀ t : Fin cfg0.N, win0_15.index t = ![t.val, 0, 0] :=
  (by decide +kernel : ∀ t : Fin grid0.N, win0_15.index t = ![t.val, 0, 0])

theorem at16 : ∀ t : Fin cfg0.N, win0_16.index t = ![t.val, 0, 0] :=
  (by decide +kernel : ∀ t : Fin grid0.N, win0_16.index t = ![t.val, 0, 0])

/-- The first result array at an element. -/
theorem arr15 (c : Dev nD) (b : Fin 16) (i : Fin 512) (j : Fin 6) :
    (dats m hm 0 c).arrAt 15 cfg0.N (ix3 b i j) = out15 m hm c (pt b) (ix3 (0 : Fin 1) i j) := by
  have h := (dats m hm 0 c).arrAt_emb_eq_flushed 15
    (fun t t' _ _ hne => (cfg0.win 15).disjoint_blk fun h => hne (inj15 t t' h)) (pt b) (flush0_15 _) (ix3 (0 : Fin 1) i j)
  have e : ((cfg0.win 15).blk (pt b)).view.emb (ix3 (0 : Fin 1) i j) = ix3 b i j := by
    blk_ext [at15]
    rfl
  rw [e] at h
  rw [h]
  rfl

/-- The second. -/
theorem arr16 (c : Dev nD) (b : Fin 16) (i : Fin 512) (j : Fin 18) :
    (dats m hm 0 c).arrAt 16 cfg0.N (ix3 b i j) = out16 m hm c (pt b) (ix3 (0 : Fin 1) i j) := by
  have h := (dats m hm 0 c).arrAt_emb_eq_flushed 16
    (fun t t' _ _ hne => (cfg0.win 16).disjoint_blk fun h => hne (inj16 t t' h)) (pt b) (flush0_16 _) (ix3 (0 : Fin 1) i j)
  have e : ((cfg0.win 16).blk (pt b)).view.emb (ix3 (0 : Fin 1) i j) = ix3 b i j := by
    blk_ext [at16]
    rfl
  rw [e] at h
  rw [h]
  rfl

/-! An input's block is the whole array. -/

theorem whole0 (c : Dev nD) (t : Fin cfg0.N) : iblk m c 0 t = m ((c.tc : Thread nD τ).loc main_arg3) := by
  funext y
  unfold iblk
  rw [View.read_apply, cast_eq]
  refine congrArg (m ((c.tc : Thread nD τ).loc main_arg3)) (funext fun a => Fin.ext ?_)
  exact (cfg0.win 0).rect_emb_val_of_index_zero t a (by match a with | ⟨0, _⟩ => rfl) y

theorem whole1 (c : Dev nD) (t : Fin cfg0.N) : iblk m c 1 t = m ((c.tc : Thread nD τ).loc main_arg0) := by
  funext y
  unfold iblk
  rw [View.read_apply, cast_eq]
  refine congrArg (m ((c.tc : Thread nD τ).loc main_arg0)) (funext fun a => Fin.ext ?_)
  exact (cfg0.win 1).rect_emb_val_of_index_zero t a (by match a with | ⟨0, _⟩ => rfl | ⟨1, _⟩ => rfl) y

theorem whole2 (c : Dev nD) (t : Fin cfg0.N) : iblk m c 2 t = m ((c.tc : Thread nD τ).loc main_arg1) := by
  funext y
  unfold iblk
  rw [View.read_apply, cast_eq]
  refine congrArg (m ((c.tc : Thread nD τ).loc main_arg1)) (funext fun a => Fin.ext ?_)
  exact (cfg0.win 2).rect_emb_val_of_index_zero t a (by match a with | ⟨0, _⟩ => rfl | ⟨1, _⟩ => rfl) y

theorem whole3 (c : Dev nD) (t : Fin cfg0.N) : iblk m c 3 t = m ((c.tc : Thread nD τ).loc main_arg4) := by
  funext y
  unfold iblk
  rw [View.read_apply, cast_eq]
  refine congrArg (m ((c.tc : Thread nD τ).loc main_arg4)) (funext fun a => Fin.ext ?_)
  exact (cfg0.win 3).rect_emb_val_of_index_zero t a (by match a with | ⟨0, _⟩ => rfl | ⟨1, _⟩ => rfl) y

theorem whole4 (c : Dev nD) (t : Fin cfg0.N) : iblk m c 4 t = m ((c.tc : Thread nD τ).loc main_arg5) := by
  funext y
  unfold iblk
  rw [View.read_apply, cast_eq]
  refine congrArg (m ((c.tc : Thread nD τ).loc main_arg5)) (funext fun a => Fin.ext ?_)
  exact (cfg0.win 4).rect_emb_val_of_index_zero t a (by match a with | ⟨0, _⟩ => rfl) y

theorem whole5 (c : Dev nD) (t : Fin cfg0.N) : iblk m c 5 t = m ((c.tc : Thread nD τ).loc main_arg6) := by
  funext y
  unfold iblk
  rw [View.read_apply, cast_eq]
  refine congrArg (m ((c.tc : Thread nD τ).loc main_arg6)) (funext fun a => Fin.ext ?_)
  exact (cfg0.win 5).rect_emb_val_of_index_zero t a (by match a with | ⟨0, _⟩ => rfl | ⟨1, _⟩ => rfl) y

theorem whole6 (c : Dev nD) (t : Fin cfg0.N) : iblk m c 6 t = m ((c.tc : Thread nD τ).loc main_arg7) := by
  funext y
  unfold iblk
  rw [View.read_apply, cast_eq]
  refine congrArg (m ((c.tc : Thread nD τ).loc main_arg7)) (funext fun a => Fin.ext ?_)
  exact (cfg0.win 6).rect_emb_val_of_index_zero t a (by match a with | ⟨0, _⟩ => rfl) y

theorem whole7 (c : Dev nD) (t : Fin cfg0.N) : iblk m c 7 t = m ((c.tc : Thread nD τ).loc main_arg8) := by
  funext y
  unfold iblk
  rw [View.read_apply, cast_eq]
  refine congrArg (m ((c.tc : Thread nD τ).loc main_arg8)) (funext fun a => Fin.ext ?_)
  exact (cfg0.win 7).rect_emb_val_of_index_zero t a (by match a with | ⟨0, _⟩ => rfl | ⟨1, _⟩ => rfl) y

theorem whole8 (c : Dev nD) (t : Fin cfg0.N) : iblk m c 8 t = m ((c.tc : Thread nD τ).loc main_arg9) := by
  funext y
  unfold iblk
  rw [View.read_apply, cast_eq]
  refine congrArg (m ((c.tc : Thread nD τ).loc main_arg9)) (funext fun a => Fin.ext ?_)
  exact (cfg0.win 8).rect_emb_val_of_index_zero t a (by match a with | ⟨0, _⟩ => rfl | ⟨1, _⟩ => rfl) y

theorem whole9 (c : Dev nD) (t : Fin cfg0.N) : iblk m c 9 t = m ((c.tc : Thread nD τ).loc main_arg10) := by
  funext y
  unfold iblk
  rw [View.read_apply, cast_eq]
  refine congrArg (m ((c.tc : Thread nD τ).loc main_arg10)) (funext fun a => Fin.ext ?_)
  exact (cfg0.win 9).rect_emb_val_of_index_zero t a (by match a with | ⟨0, _⟩ => rfl | ⟨1, _⟩ => rfl) y

theorem whole10 (c : Dev nD) (t : Fin cfg0.N) : iblk m c 10 t = m ((c.tc : Thread nD τ).loc main_arg11) := by
  funext y
  unfold iblk
  rw [View.read_apply, cast_eq]
  refine congrArg (m ((c.tc : Thread nD τ).loc main_arg11)) (funext fun a => Fin.ext ?_)
  exact (cfg0.win 10).rect_emb_val_of_index_zero t a (by match a with | ⟨0, _⟩ => rfl | ⟨1, _⟩ => rfl) y

theorem whole11 (c : Dev nD) (t : Fin cfg0.N) : iblk m c 11 t = m ((c.tc : Thread nD τ).loc main_arg12) := by
  funext y
  unfold iblk
  rw [View.read_apply, cast_eq]
  refine congrArg (m ((c.tc : Thread nD τ).loc main_arg12)) (funext fun a => Fin.ext ?_)
  exact (cfg0.win 11).rect_emb_val_of_index_zero t a (by match a with | ⟨0, _⟩ => rfl | ⟨1, _⟩ => rfl) y

theorem whole12 (c : Dev nD) (t : Fin cfg0.N) : iblk m c 12 t = m ((c.tc : Thread nD τ).loc main_arg13) := by
  funext y
  unfold iblk
  rw [View.read_apply, cast_eq]
  refine congrArg (m ((c.tc : Thread nD τ).loc main_arg13)) (funext fun a => Fin.ext ?_)
  exact (cfg0.win 12).rect_emb_val_of_index_zero t a (by match a with | ⟨0, _⟩ => rfl) y

theorem whole13 (c : Dev nD) (t : Fin cfg0.N) : iblk m c 13 t = m ((c.tc : Thread nD τ).loc main_arg14) := by
  funext y
  unfold iblk
  rw [View.read_apply, cast_eq]
  refine congrArg (m ((c.tc : Thread nD τ).loc main_arg14)) (funext fun a => Fin.ext ?_)
  exact (cfg0.win 13).rect_emb_val_of_index_zero t a (by match a with | ⟨0, _⟩ => rfl | ⟨1, _⟩ => rfl) y

theorem whole14 (c : Dev nD) (t : Fin cfg0.N) : iblk m c 14 t = m ((c.tc : Thread nD τ).loc main_arg15) := by
  funext y
  unfold iblk
  rw [View.read_apply, cast_eq]
  refine congrArg (m ((c.tc : Thread nD τ).loc main_arg15)) (funext fun a => Fin.ext ?_)
  exact (cfg0.win 14).rect_emb_val_of_index_zero t a (by match a with | ⟨0, _⟩ => rfl) y

end Cert.KernelIdeal.Arrays

end
-- ==== Proof.KernelIdeal.Results.lean ====
/- What the kernel leaves in its two result arrays, from its argument arrays: at an element of a batch whose segment
   holds a token, the box features of `Spec` through an output head. -/
module

public import proofs.«01_k».proof.Proof.KernelIdeal.Arrays

@[expose] public section

set_option maxRecDepth 8000

noncomputable section

namespace Cert.KernelIdeal.Results

open Cert.KernelIdeal Cert.KernelIdeal.Gen Cert.KernelIdeal.Run Cert.KernelIdeal.Box Cert.KernelIdeal.Arrays
open Idealize.ShloMosaic Idealize.ShloMosaic.Pipeline Idealize.SL.Sem

/-- The hidden rows of batch `b`, from the arrays. -/
def hid (a0 : Vec Ideal S4096x256 .f32) (a1 : Vec Ideal S4096x3 .f32) (a3 : Vec Ideal S17 .i32) (a4 : Vec Ideal S256x256 .f32)
    (a5 : Vec Ideal S256 .f32) (a6 : Vec Ideal S3x256 .f32) (a7 : Vec Ideal S256 .f32) (b : Fin 16) :
    Fin 512 → Fin 256 → EReal :=
  Spec.hidden (BitVec.toNat (a3 (ix1 b.castSucc))) (BitVec.toNat (a3 (ix1 b.succ))) (Hidden.tok a0 a1 a4 a5 a6 a7) (vec a7)

/-- The length of its segment. -/
def len (a3 : Vec Ideal S17 .i32) (b : Fin 16) : ℕ := BitVec.toNat (a3 (ix1 b.succ)) - BitVec.toNat (a3 (ix1 b.castSucc))

theorem lo_pt (x0 : Vec Ideal S17 .i32) (b : Fin 16) : Block.lo (grid0.coords (pt b)) x0 = x0 (ix1 b.castSucc) :=
  congrArg x0 (funext fun a => Fin.ext (by match a with | ⟨0, _⟩ => exact coords_pt b))

theorem hi_pt (x0 : Vec Ideal S17 .i32) (b : Fin 16) : Block.hi (grid0.coords (pt b)) x0 = x0 (ix1 b.succ) :=
  congrArg x0 (funext fun a => Fin.ext (by match a with | ⟨0, _⟩ => exact congrArg (· + 1) (coords_pt b)))

variable (m : (ℓ : Loc nD τ sig) → Buf (Elt Ideal) ℓ)
variable (hm : ∀ (c : Dev nD) (t : Fin cfg0.N) (y : S17.Idx), BitVec.toNat (iblk m c 0 t y : BitVec 32) ≤ 4096)

/-- An argument array of device `c`. -/
abbrev arg (c : Dev nD) (r : Ref sig .tc) : Buf (Elt Ideal) ((c.tc : Thread nD τ).loc r) := m ((c.tc : Thread nD τ).loc r)

theorem coords_eq (r : PUnit × MemSt nD τ sig (Elt Ideal)) (hr : Pipeline.FramePost cfgs (dats m hm) 0 (V m) r) (c : Dev nD)
    (b : Fin 16) (hb : Hidden.Seg (arg m c main_arg3 (ix1 b.castSucc)) (arg m c main_arg3 (ix1 b.succ))) (i : Fin 512) (j : Fin 6) :
    r.2.mem ((c.tc : Thread nD τ).loc main_v0_0) (ix3 b i j)
      = Spec.out (Spec.boxOnce (len (arg m c main_arg3) b)
          (hid (arg m c main_arg0) (arg m c main_arg1) (arg m c main_arg3) (arg m c main_arg4) (arg m c main_arg5)
            (arg m c main_arg6) (arg m c main_arg7) b)
          (rows (arg m c main_arg8)) (rows (arg m c main_arg9)) (rows (arg m c main_arg10)) (rows (arg m c main_arg11)) i)
          (rows (arg m c main_arg14)) (vec (arg m c main_arg15)) j := by
  have h1 : r.2.mem ((c.tc : Thread nD τ).loc main_v0_0) = (dats m hm 0 c).arrAt 15 cfg0.N := (hr c).1 15
  have hs : Hidden.Seg (Block.lo (grid0.coords (pt b)) (iblk m c 0 (pt b))) (Block.hi (grid0.coords (pt b)) (iblk m c 0 (pt b))) := by
    rw [lo_pt, hi_pt, whole0]; exact hb
  rw [h1, arr15]
  unfold out15
  rw [Value.coords_spec _ _ _ _ _ _ _ _ _ _ _ _ _ _ _ _ _ hs]
  rw [lo_pt, hi_pt, whole0, whole1, whole2, whole3, whole4, whole5, whole6, whole7, whole8, whole9, whole10, whole13, whole14]
  rfl

theorem classes_eq (r : PUnit × MemSt nD τ sig (Elt Ideal)) (hr : Pipeline.FramePost cfgs (dats m hm) 0 (V m) r) (c : Dev nD)
    (b : Fin 16) (hb : Hidden.Seg (arg m c main_arg3 (ix1 b.castSucc)) (arg m c main_arg3 (ix1 b.succ))) (i : Fin 512) (j : Fin 18) :
    r.2.mem ((c.tc : Thread nD τ).loc main_v0_1) (ix3 b i j)
      = Spec.out (Spec.boxOnce (len (arg m c main_arg3) b)
          (hid (arg m c main_arg0) (arg m c main_arg1) (arg m c main_arg3) (arg m c main_arg4) (arg m c main_arg5)
            (arg m c main_arg6) (arg m c main_arg7) b)
          (rows (arg m c main_arg8)) (rows (arg m c main_arg9)) (rows (arg m c main_arg10)) (rows (arg m c main_arg11)) i)
          (rows (arg m c main_arg12)) (vec (arg m c main_arg13)) j := by
  have h1 : r.2.mem ((c.tc : Thread nD τ).loc main_v0_1) = (dats m hm 0 c).arrAt 16 cfg0.N := (hr c).1 16
  have hs : Hidden.Seg (Block.lo (grid0.coords (pt b)) (iblk m c 0 (pt b))) (Block.hi (grid0.coords (pt b)) (iblk m c 0 (pt b))) := by
    rw [lo_pt, hi_pt, whole0]; exact hb
  rw [h1, arr16]
  unfold out16
  rw [Value.classes_spec _ _ _ _ _ _ _ _ _ _ _ _ _ _ _ _ _ hs]
  rw [lo_pt, hi_pt, whole0, whole1, whole2, whole3, whole4, whole5, whole6, whole7, whole8, whole9, whole10, whole11, whole12]
  rfl

end Cert.KernelIdeal.Results

end
-- ==== Proof.ReferenceIdeal.Heads.lean ====
/- The reference's array operations at an element: the projections, the cut into heads and back, the products of the
   attention and the reductions over its rows. -/
module

public import proofs.«01_k».proof.Proof.Gen.ReferenceIdeal.Run
public import proofs.«01_k».proof.Proof.Spec
public import Idealize.ShloMosaic.Lib.Pointwise

@[expose] public section

noncomputable section

namespace Cert.ReferenceIdeal.Heads

open Cert.ReferenceIdeal Cert.ReferenceIdeal.Gen Cert.ReferenceIdeal.Value
open Idealize.ShloMosaic Idealize.ShloMosaic.StableHlo

/-- The rows of batch `b` through a square matrix. -/
theorem project_apply (x : FVec Ideal S16x512x256 .f32) (w : FVec Ideal S256x256 .f32) (b : Fin 16) (i : Fin 512) (c : Fin 256) :
    Host.dotGeneral dot_S16x512x256_S256x256_S16x512x256_2_0_01_1_n_n none x w (ix3 b i c)
      = Spec.lin (fun i d => x (ix3 b i d)) (fun d c => w (ix2 d c)) i c := by
  unfold Spec.lin
  pointwise []

/-- The columns cut into heads. -/
theorem cut_apply (y : FVec Ideal S16x512x256 .f32) (b : Fin 16) (n : Fin 4) (i : Fin 512) (j : Fin 64) :
    transpose S16x4x512x64 [0, 2, 1, 3] (shapeCast _ y shapeCasts_S16x512x256_S16x512x4x64) transposes_S16x512x4x64_S16x4x512x64_0_2_1_3 (ix4 b n i j)
      = y (ix3 b i (Spec.col n j)) := by
  unfold Spec.col
  pointwise []

/-- The heads joined again. -/
theorem join_apply (z : FVec Ideal S16x4x512x64 .f32) (b : Fin 16) (n : Fin 4) (i : Fin 512) (j : Fin 64) :
    shapeCast S16x512x256 (transpose S16x512x4x64 [0, 2, 1, 3] z transposes_S16x4x512x64_S16x512x4x64_0_2_1_3) shapeCasts_S16x512x4x64_S16x512x256 (ix3 b i (Spec.col n j))
      = z (ix4 b n i j) := by
  unfold Spec.col
  pointwise []

/-- The scores. -/
theorem score_apply (q k : FVec Ideal S16x4x512x64 .f32) (b : Fin 16) (n : Fin 4) (i t : Fin 512) :
    Host.dotGeneral dot_S16x4x512x64_S16x4x512x64_S16x4x512x512_3_3_2_2_01_01 none q k (ix4 b n i t)
      = ∑ j : Fin 64, q (ix4 b n i j) * k (ix4 b n t j) := by
  pointwise []

/-- The weighted values. -/
theorem weigh_apply (p : FVec Ideal S16x4x512x512 .f32) (v : FVec Ideal S16x4x512x64 .f32) (b : Fin 16) (n : Fin 4) (i : Fin 512) (j : Fin 64) :
    Host.dotGeneral dot_S16x4x512x512_S16x4x512x64_S16x4x512x64_3_2_2_3_01_01 none p v (ix4 b n i j)
      = ∑ t : Fin 512, p (ix4 b n i t) * v (ix4 b n t j) := by
  pointwise []

/-- The mask of the keys, for every head and every query row. -/
theorem spread_mask (x : IVec S16x512 1) (b : Fin 16) (n : Fin 4) (i t : Fin 512) :
    broadcastInDim S16x4x512x512 ![0, 1, 2, 3] bcast_S16x1x1x512_S16x4x512x512_0_1_2_3 (broadcastInDim S16x1x1x512 ![0, 3] bcast_S16x512_S16x1x1x512_0_3 x) (ix4 b n i t)
      = x (ix2 b t) :=
  congrArg x (funext fun a => Fin.ext (by match a with | ⟨0, _⟩ => rfl | ⟨1, _⟩ => rfl))

/-- One number per row, for every key. -/
theorem spread_row (x : FVec Ideal S16x4x512 .f32) (b : Fin 16) (n : Fin 4) (i t : Fin 512) :
    broadcastInDim S16x4x512x512 ![0, 1, 2, 3] bcast_S16x4x512x1_S16x4x512x512_0_1_2_3 (broadcastInDim S16x4x512x1 ![0, 1, 2] bcast_S16x4x512_S16x4x512x1_0_1_2 x) (ix4 b n i t)
      = x (ix3 b n i) :=
  congrArg x (funext fun a => Fin.ext (by match a with | ⟨0, _⟩ => rfl | ⟨1, _⟩ => rfl | ⟨2, _⟩ => rfl))

theorem neg_inf : Ideal.ofBits .f32 0xFF800000#32 = ⊥ := by simp [Ideal.ofBits, Ideal.ieee]

/-- The greatest entry of a row. -/
theorem greatest_apply (x : FVec Ideal S16x4x512x512 .f32) (b : Fin 16) (n : Fin 4) (i : Fin 512) :
    Host.reduce FloatOps.maximumf x (constant S_ .f32 0xFF800000#32) reducesTo_S16x4x512x512_S16x4x512_d3 h_S_ (ix3 b n i)
      = Finset.univ.fold max ⊥ (fun t : Fin 512 => x (ix4 b n i t)) := by
  pointwise []
  rw [neg_inf]

/-- The sum of a row. -/
theorem total_apply (x : FVec Ideal S16x4x512x512 .f32) (b : Fin 16) (n : Fin 4) (i : Fin 512) :
    Host.reduceAdd x (constant S_ .f32 0x00000000#32) reducesTo_S16x4x512x512_S16x4x512_d3 h_S_ (ix3 b n i)
      = ∑ t : Fin 512, x (ix4 b n i t) := by
  pointwise []

/-- The root of 64. -/
theorem root (k : S_.Idx) : Host.sqrt (constant S_ .f32 0x42800000#32 : FVec Ideal S_ .f32) k = ((8 : ℝ) : EReal) := by
  have e : Host.sqrt (constant S_ .f32 0x42800000#32 : FVec Ideal S_ .f32) k = Ideal.sqrt (Ideal.ofBits .f32 0x42800000#32) := rfl
  have e2 : Ideal.ofBits .f32 0x42800000#32 = ((64 : ℝ) : EReal) := by
    simp [Ideal.ofBits, Ideal.ieee]
    try (rw [← EReal.coe_mul]; norm_num)
  have e3 : Ideal.sqrt ((64 : ℝ) : EReal) = ((if (64 : ℝ) < 0 then ⊥ else (Real.sqrt 64 : EReal)) : EReal) := rfl
  have e4 : Real.sqrt 64 = 8 := by
    rw [show (64 : ℝ) = 8 ^ 2 by norm_num]
    exact Real.sqrt_sq (by norm_num)
  rw [e, e2, e3, if_neg (by norm_num), e4]

end Cert.ReferenceIdeal.Heads

end
-- ==== Proof.Offsets.lean ====
/- Offsets that rise to 4096: each token from the first of them on lies in one of the sixteen segments between them. -/
module

public import Idealize.ShloMosaic.Lib.ValueIdxCore
public import Idealize.ShloMosaic.PureOps.Ideal

@[expose] public section

namespace Cert.Offsets

open Idealize.ShloMosaic Idealize.ShloMosaic.ValueIdx

/-- Seventeen words that rise to 4096. -/
structure Rising (cu : IVec ⟨1, ![17]⟩ 32) : Prop where
  last : (cu (ix1 (16 : Fin 17))).toNat = 4096
  step : ∀ b : Fin 16, (cu (ix1 b.castSucc)).toNat ≤ (cu (ix1 b.succ)).toNat

variable {cu : IVec ⟨1, ![17]⟩ 32} (h : Rising cu)

include h

theorem Rising.mono : Monotone fun k : Fin 17 => (cu (ix1 k)).toNat := Fin.monotone_iff_le_succ.2 h.step

theorem Rising.le (k : Fin 17) : (cu (ix1 k)).toNat ≤ 4096 := by
  have := h.mono (Fin.le_last k)
  have e := h.last
  simp only at this
  exact this.trans e.le

/-- The segment of a token. -/
theorem Rising.segment (n : Fin 4096) (hn : (cu (ix1 (0 : Fin 17))).toNat ≤ n.val) :
    ∃ b : Fin 16, (cu (ix1 b.castSucc)).toNat ≤ n.val ∧ n.val < (cu (ix1 b.succ)).toNat := by
  by_contra hc
  have hc' : ∀ b : Fin 16, (cu (ix1 b.castSucc)).toNat ≤ n.val → (cu (ix1 b.succ)).toNat ≤ n.val :=
    fun b hb => not_lt.1 fun hn => hc ⟨b, hb, hn⟩
  have all : ∀ k : Fin 17, (cu (ix1 k)).toNat ≤ n.val := fun k => by
    induction k using Fin.induction with
    | zero => exact hn
    | succ b ih => exact hc' b ih
  have := all 16
  have e := h.last
  have := n.isLt
  omega

/-- The offsets at or below a token of segment `b` are the first `b + 1`. -/
theorem Rising.le_iff {n : ℕ} {b : Fin 16} (h1 : (cu (ix1 b.castSucc)).toNat ≤ n) (h2 : n < (cu (ix1 b.succ)).toNat)
    (k : Fin 17) : (cu (ix1 k)).toNat ≤ n ↔ k.val ≤ b.val := by
  constructor
  · intro hk
    by_contra hb
    have : b.succ ≤ k := by rw [Fin.le_def, Fin.val_succ]; omega
    have := h.mono this
    simp only at this
    omega
  · intro hk
    have : k ≤ b.castSucc := by rw [Fin.le_def, Fin.val_castSucc]; omega
    exact (h.mono this).trans h1

/-- A token lies in one segment. -/
theorem Rising.unique {n : ℕ} {b b' : Fin 16} (h1 : (cu (ix1 b.castSucc)).toNat ≤ n) (h2 : n < (cu (ix1 b.succ)).toNat)
    (h1' : (cu (ix1 b'.castSucc)).toNat ≤ n) (h2' : n < (cu (ix1 b'.succ)).toNat) : b = b' := by
  have a := (h.le_iff h1 h2 b'.castSucc).1 h1'
  have c := (h.le_iff h1' h2' b.castSucc).1 h1
  rw [Fin.val_castSucc] at a c
  exact Fin.ext (by omega)

end Cert.Offsets
-- ==== Proof.ReferenceIdeal.Place.lean ====
/- Where the reference puts token `n`: the batch whose segment holds it, and its row there, 511 at most. A token before the
   first offset goes to row 0 of batch 0, where a token of the segment overwrites it. -/
module

public import proofs.«01_k».proof.Proof.Offsets
public import proofs.«01_k».proof.Proof.Gen.ReferenceIdeal.Run
public import Idealize.ShloMosaic.Lib.Routing.OpsPair
public import Idealize.ShloMosaic.Lib.Routing.OpsSet
public import Idealize.ShloMosaic.Lib.ValueIdx

@[expose] public section

noncomputable section

namespace Cert.ReferenceIdeal.Place

open Cert.ReferenceIdeal Cert.ReferenceIdeal.Gen Cert.ReferenceIdeal.Value
open Idealize.ShloMosaic Idealize.ShloMosaic.ValueIdx Idealize.ShloMosaic.StableHlo

variable (V0 : Valuation τ sig (Elt Ideal))

/-- The offsets. -/
abbrev cu : IVec S17 32 := V0 (Proc.devRef .tc main_arg3)

/-- The number of offsets at or below each token. -/
def below : IVec S4096 32 :=
  Host.reduce IntOp.addi (extui 32 (cmpi .sle (broadcastInDim S4096x17 ![0, 1] bcast_S1x17_S4096x17_0_1 (broadcastInDim S1x17 ![1] bcast_S17_S1x17_1 (cu V0)))
    (broadcastInDim S4096x17 ![0, 1] bcast_S4096x1_S4096x17_0_1 (broadcastInDim S4096x1 ![0] bcast_S4096_S4096x1_0 (iotaInDim S4096 32 0)))) natLt_1_32)
    (constantI S_ 32 0#32) reducesTo_S4096x17_S4096_d1 h_S_

theorem bid_eq (n : Fin 4096) : res_main_v10 V0 (ix1 n)
    = IntOp.minsi 15#32 (IntOp.maxsi 0#32 (IntOp.subi (below V0 (ix1 n)) 1#32)) := rfl

theorem count_le : ∀ b : Fin 16, Nat.count (fun k => k ≤ b.val) 17 = b.val + 1 := by decide

theorem clamp : ∀ b : Fin 16, IntOp.minsi 15#32 (IntOp.maxsi 0#32 (IntOp.subi (BitVec.ofNat 32 (b.val + 1)) 1#32)) = BitVec.ofNat 32 b.val := by
  decide

/-- A token is compared with an offset. -/
theorem compare_iff (hl : ∀ q : Fin 17, (cu V0 (ix1 q)).toNat ≤ 4096) (n : Fin 4096) (q : Fin 17) :
    cmpi .sle (broadcastInDim S4096x17 ![0, 1] bcast_S1x17_S4096x17_0_1 (broadcastInDim S1x17 ![1] bcast_S17_S1x17_1 (cu V0)))
      (broadcastInDim S4096x17 ![0, 1] bcast_S4096x1_S4096x17_0_1 (broadcastInDim S4096x1 ![0] bcast_S4096_S4096x1_0 (iotaInDim S4096 32 0))) (ix2 n q) = 1#1
      ↔ (cu V0 (ix1 q)).toNat ≤ n.val := by
  have e : cmpi .sle (broadcastInDim S4096x17 ![0, 1] bcast_S1x17_S4096x17_0_1 (broadcastInDim S1x17 ![1] bcast_S17_S1x17_1 (cu V0)))
      (broadcastInDim S4096x17 ![0, 1] bcast_S4096x1_S4096x17_0_1 (broadcastInDim S4096x1 ![0] bcast_S4096_S4096x1_0 (iotaInDim S4096 32 0))) (ix2 n q)
      = BitVec.ofBool (BitVec.sle (cu V0 (ix1 q)) (BitVec.ofNat 32 n.val)) := by
    have ea : broadcastInDim S4096x17 ![0, 1] bcast_S1x17_S4096x17_0_1 (broadcastInDim S1x17 ![1] bcast_S17_S1x17_1 (cu V0)) (ix2 n q)
        = cu V0 (ix1 q) := congrArg (cu V0) (funext fun a => Fin.ext (by match a with | ⟨0, _⟩ => rfl))
    show BitVec.ofBool (BitVec.sle _ _) = _
    rw [ea]
    rfl
  rw [e]
  have hq := hl q
  have hn := n.isLt
  have : BitVec.sle (cu V0 (ix1 q)) (BitVec.ofNat 32 n.val) = decide ((cu V0 (ix1 q)).toNat ≤ n.val) := by
    rw [BitVec.sle]
    refine decide_eq_decide.2 ?_
    rw [BitVec.toInt_eq_toNat_of_lt (by omega), BitVec.toInt_eq_toNat_of_lt (by rw [BitVec.toNat_ofNat]; omega), BitVec.toNat_ofNat]
    omega
  rw [this]
  by_cases hc : (cu V0 (ix1 q)).toNat ≤ n.val <;> simp [hc]

/-- The offset of the batch that a token is put in. -/
def begin : IVec S4096 32 :=
  Host.gather gather_S17_S4096x1_S4096_n_0_n_n_0_1_1 (cu V0) (broadcastInDim S4096x1 ![0] bcast_S4096_S4096x1_0
      (select (cmpi .slt (res_main_v10 V0) (broadcastInDim S4096 ![] bcast_S_S4096 (constantI S_ 32 0#32)))
        (addi (res_main_v10 V0) (broadcastInDim S4096 ![] bcast_S_S4096 (constantI S_ 32 17#32))) (res_main_v10 V0)))

theorem begin_apply (n : Fin 4096) (b : Fin 16) (hb : res_main_v10 V0 (ix1 n) = BitVec.ofNat 32 b.val) :
    begin V0 (ix1 n) = cu V0 (ix1 b.castSucc) := by
  refine Routing.gather_take1 (N := 17) (n := 4096) _ rfl rfl rfl rfl (cu V0) _ n b.castSucc ?_ (by norm_num)
  have e : broadcastInDim S4096x1 ![0] bcast_S4096_S4096x1_0
      (select (cmpi .slt (res_main_v10 V0) (broadcastInDim S4096 ![] bcast_S_S4096 (constantI S_ 32 0#32)))
        (addi (res_main_v10 V0) (broadcastInDim S4096 ![] bcast_S_S4096 (constantI S_ 32 17#32))) (res_main_v10 V0)) (ix2 n (0 : Fin 1))
      = Scalar.select (IntOp.cmpi .slt (res_main_v10 V0 (ix1 n)) 0#32) (IntOp.addi (res_main_v10 V0 (ix1 n)) 17#32) (res_main_v10 V0 (ix1 n)) := by
    generalize res_main_v10 V0 = w
    have ew : w (ix1 n) = broadcastInDim S4096x1 ![0] bcast_S4096_S4096x1_0 w (ix2 n (0 : Fin 1)) :=
      congrArg w (funext fun a => Fin.ext (by match a with | ⟨0, _⟩ => rfl))
    rw [ew]
    rfl
  have hb' := b.isLt
  rw [e, hb, Routing.wrap_of_lt _ _ (by rw [BitVec.toNat_ofNat]; omega)]
  rfl

theorem pos_eq (n : Fin 4096) : res_main_v19 V0 (ix1 n)
    = IntOp.minsi 511#32 (IntOp.maxsi 0#32 (IntOp.subi (BitVec.ofNat 32 n.val) (begin V0 (ix1 n)))) := rfl

section Before

/-! A token before the first offset is put in row 0 of batch 0. -/

variable {V0} (h : Offsets.Rising (cu V0)) {n : Fin 4096} (hn : n.val < (cu V0 (ix1 (0 : Fin 17))).toNat)

include h hn

theorem bid_before : res_main_v10 V0 (ix1 n) = BitVec.ofNat 32 (0 : Fin 16).val := by
  have hb : below V0 (ix1 n) = BitVec.ofNat 32 0 := by
    rw [show 0 = Nat.count (fun _ => False) 17 by decide]
    refine Routing.reduce_count (n := 4096) (m := 17) (by norm_num) _ _ _ _ n (fun _ => False) fun q => ?_
    rw [compare_iff V0 h.le n q, iff_false]
    have := h.mono (Fin.zero_le q)
    simp only at this
    omega
  rw [bid_eq, hb]
  rfl

theorem pos_before : res_main_v19 V0 (ix1 n) = BitVec.ofNat 32 0 := by
  rw [pos_eq, begin_apply V0 n 0 (bid_before h hn)]
  have hl := h.le 0
  have hn' : n.val < (cu V0 (ix1 (0 : Fin 16).castSucc)).toNat := hn
  have hl' : (cu V0 (ix1 (0 : Fin 16).castSucc)).toNat ≤ 4096 := hl
  generalize cu V0 (ix1 (0 : Fin 16).castSucc) = s at hn' hl'
  have hs : (IntOp.subi (BitVec.ofNat 32 n.val) s).toNat = 2 ^ 32 + n.val - s.toNat := by
    show (BitVec.ofNat 32 n.val - s).toNat = _
    rw [BitVec.toNat_sub, BitVec.toNat_ofNat]; omega
  generalize IntOp.subi (BitVec.ofNat 32 n.val) s = d at hs ⊢
  have hi : d.toInt < 0 := by
    rw [BitVec.toInt]
    omega
  have h0 : IntOp.maxsi 0#32 d = 0#32 := by
    unfold IntOp.maxsi
    have e : BitVec.slt d 0#32 = true := decide_eq_true (show d.toInt < (0#32).toInt from hi)
    have e' : BitVec.slt 0#32 d = false := decide_eq_false (show ¬ (0#32).toInt < d.toInt from not_lt.2 hi.le)
    simp [e, e']
  rw [h0]
  rfl

end Before

section Within

variable {V0} (h : Offsets.Rising (cu V0)) {n : Fin 4096} {b : Fin 16} (h1 : (cu V0 (ix1 b.castSucc)).toNat ≤ n.val)
  (h2 : n.val < (cu V0 (ix1 b.succ)).toNat)

include h h1 h2

theorem below_apply : below V0 (ix1 n) = BitVec.ofNat 32 (b.val + 1) := by
  rw [← count_le b]
  refine Routing.reduce_count (n := 4096) (m := 17) (by norm_num) _ _ _ _ n (fun k => k ≤ b.val) fun q => ?_
  rw [compare_iff V0 h.le n q, h.le_iff h1 h2 q]

theorem bid_apply : res_main_v10 V0 (ix1 n) = BitVec.ofNat 32 b.val := by
  rw [bid_eq, below_apply h h1 h2, clamp]

theorem pos_apply : res_main_v19 V0 (ix1 n) = BitVec.ofNat 32 (min (n.val - (cu V0 (ix1 b.castSucc)).toNat) 511) := by
  rw [pos_eq, begin_apply V0 n b (bid_apply h h1 h2)]
  have hn := n.isLt
  generalize cu V0 (ix1 b.castSucc) = s at h1 ⊢
  have hs : (IntOp.subi (BitVec.ofNat 32 n.val) s).toNat = n.val - s.toNat := by
    show (BitVec.ofNat 32 n.val - s).toNat = _
    rw [BitVec.toNat_sub, BitVec.toNat_ofNat]; omega
  generalize IntOp.subi (BitVec.ofNat 32 n.val) s = d at hs ⊢
  have hi : d.toInt = d.toNat := BitVec.toInt_eq_toNat_of_lt (by omega)
  have h0 : IntOp.maxsi 0#32 d = d := by
    unfold IntOp.maxsi
    rw [BitVec.slt, hi, if_neg]
    simp
  rw [h0]
  apply BitVec.eq_of_toNat_eq
  unfold IntOp.minsi
  rw [BitVec.slt, hi, BitVec.toNat_ofNat]
  split
  · next hc =>
    rw [decide_eq_true_eq, show (511#32).toInt = 511 by decide] at hc
    show 511 = _
    omega
  · next hc =>
    rw [decide_eq_true_eq, show (511#32).toInt = 511 by decide] at hc
    omega

end Within

/-- A word's index pair, as the three scatters take it. -/
def pairs (V0 : Valuation τ sig (Elt Ideal)) : IVec S4096x2 32 :=
  concatenate S4096x2 1 [⟨S4096x1, (broadcastInDim S4096x1 ![0] bcast_S4096_S4096x1_0 (select (cmpi .slt (res_main_v10 V0) (broadcastInDim S4096 ![] bcast_S_S4096 (constantI S_ 32 0#32))) (addi (res_main_v10 V0) (broadcastInDim S4096 ![] bcast_S_S4096 (constantI S_ 32 16#32))) (res_main_v10 V0)))⟩, ⟨S4096x1, (broadcastInDim S4096x1 ![0] bcast_S4096_S4096x1_0 (select (cmpi .slt (res_main_v19 V0) (broadcastInDim S4096 ![] bcast_S_S4096 (constantI S_ 32 0#32))) (addi (res_main_v19 V0) (broadcastInDim S4096 ![] bcast_S_S4096 (constantI S_ 32 512#32))) (res_main_v19 V0)))⟩] concatenates_S4096x1_S4096x1_S4096x2_d1

/-- A wrapped index vector as a column, at a row whose index is not negative. -/
theorem column (w : IVec S4096 32) (a : BitVec 32) (n : Fin 4096) (hw : (w (ix1 n)).toNat < 2 ^ 31) :
    broadcastInDim S4096x1 ![0] bcast_S4096_S4096x1_0 (select (cmpi .slt w (broadcastInDim S4096 ![] bcast_S_S4096 (constantI S_ 32 0#32)))
      (addi w (broadcastInDim S4096 ![] bcast_S_S4096 (constantI S_ 32 a))) w) (ix2 n (0 : Fin 1)) = w (ix1 n) := by
  have ew : w (ix1 n) = broadcastInDim S4096x1 ![0] bcast_S4096_S4096x1_0 w (ix2 n (0 : Fin 1)) :=
    congrArg w (funext fun a => Fin.ext (by match a with | ⟨0, _⟩ => rfl))
  refine Eq.trans ?_ (Routing.wrap_of_lt (w (ix1 n)) (IntOp.addi (w (ix1 n)) a) hw)
  rw [ew]
  rfl

theorem pairs_batch_of (n : Fin 4096) (b : ℕ) (hb : b < 16) (e : res_main_v10 V0 (ix1 n) = BitVec.ofNat 32 b) :
    (pairs V0 (ix2 n (0 : Fin 2))).toInt = b := by
  have e1 : pairs V0 (ix2 n (0 : Fin 2)) = res_main_v10 V0 (ix1 n) := by
    rw [← column (res_main_v10 V0) 16#32 n (by rw [e, BitVec.toNat_ofNat]; omega)]
    exact concatenate_pair_apply_left (t := S4096x2) (s₁ := S4096x1) (s₂ := S4096x1) 1 _ _ concatenates_S4096x1_S4096x1_S4096x2_d1
      (ix2 n (0 : Fin 2)) rfl (ix2 n (0 : Fin 1)) (Fin.forall_fin_two.2 ⟨rfl, rfl⟩)
  rw [e1, e]
  exact Predicate.toInt_ofNat_small _ (by omega)

theorem pairs_row_of (n : Fin 4096) (k : ℕ) (hk : k < 512) (e : res_main_v19 V0 (ix1 n) = BitVec.ofNat 32 k) :
    (pairs V0 (ix2 n (1 : Fin 2))).toInt = k := by
  have e1 : pairs V0 (ix2 n (1 : Fin 2)) = res_main_v19 V0 (ix1 n) := by
    rw [← column (res_main_v19 V0) 512#32 n (by rw [e, BitVec.toNat_ofNat]; omega)]
    exact concatenate_pair_apply_right (t := S4096x2) (s₁ := S4096x1) (s₂ := S4096x1) 1 _ _ concatenates_S4096x1_S4096x1_S4096x2_d1
      (ix2 n (1 : Fin 2)) rfl rfl (ix2 n (0 : Fin 1))
      (Fin.forall_fin_two.2 ⟨fun _ => rfl, fun h => (h rfl).elim⟩) rfl
  rw [e1, e]
  exact Predicate.toInt_ofNat_small _ (by omega)

variable {V0} (h : Offsets.Rising (cu V0)) {n : Fin 4096} {b : Fin 16}

include h

theorem pairs_batch (h1 : (cu V0 (ix1 b.castSucc)).toNat ≤ n.val) (h2 : n.val < (cu V0 (ix1 b.succ)).toNat) :
    (pairs V0 (ix2 n (0 : Fin 2))).toInt = b.val :=
  pairs_batch_of V0 n b.val b.isLt (bid_apply h h1 h2)

theorem pairs_row (h1 : (cu V0 (ix1 b.castSucc)).toNat ≤ n.val) (h2 : n.val < (cu V0 (ix1 b.succ)).toNat) :
    (pairs V0 (ix2 n (1 : Fin 2))).toInt = ((min (n.val - (cu V0 (ix1 b.castSucc)).toNat) 511 : ℕ) : ℤ) :=
  pairs_row_of V0 n _ (by omega) (pos_apply h h1 h2)

/-- A token before the first offset is put in row 0. -/
theorem pairs_row_before (hn : n.val < (cu V0 (ix1 (0 : Fin 17))).toNat) : (pairs V0 (ix2 n (1 : Fin 2))).toInt = (0 : ℕ) :=
  pairs_row_of V0 n 0 (by omega) (pos_before h hn)

end Cert.ReferenceIdeal.Place

end
-- ==== Proof.ReferenceIdeal.Scatter.lean ====
/- The reference's three scatters at an element. Of the tokens whose index pair is the element's batch and row the last
   one's update stands there; an element that no token lands at keeps what was there before. -/
module

public import proofs.«01_k».proof.Proof.Gen.ReferenceIdeal
public import Idealize.ShloMosaic.Lib.Routing.OpsPair
public import Idealize.ShloMosaic.Lib.Routing.OpsSet

@[expose] public section

noncomputable section

namespace Cert.ReferenceIdeal.Scatter

open Cert.ReferenceIdeal Cert.ReferenceIdeal.Gen
open Idealize.ShloMosaic Idealize.ShloMosaic.ValueIdx

/-- A left fold that replaces its value at each hit ends with the last hit's. -/
theorem foldl_last {ι α : Type} [LinearOrder ι] (P : ι → Prop) [DecidablePred P] (g : ι → α) (k : ι) (hk : P k)
    (hlast : ∀ n, P n → n ≤ k) : ∀ (l : List ι) (_ : l.Pairwise (· < ·)) (_ : k ∈ l) (a : α),
    l.foldl (fun a n => if P n then g n else a) a = g k
  | [], _, h, _ => (List.not_mem_nil h).elim
  | x :: xs, hl, h, a => by
    rw [List.foldl_cons]
    by_cases hx : k ∈ xs
    · exact foldl_last P g k hk hlast xs (List.pairwise_cons.1 hl).2 hx _
    · have hkx : k = x := (List.mem_cons.1 h).resolve_right hx
      subst hkx
      rw [if_pos hk]
      have hno : ∀ n ∈ xs, ¬ P n := fun n hn hp => absurd (hlast n hp) (not_le.2 ((List.pairwise_cons.1 hl).1 n hn))
      have stay : ∀ (ys : List ι) (_ : ∀ n ∈ ys, ¬ P n) (b : α), ys.foldl (fun a n => if P n then g n else a) b = b := by
        intro ys
        induction ys with
        | nil => exact fun _ _ => rfl
        | cons y ys ih =>
          intro hy b
          rw [List.foldl_cons, if_neg (hy y List.mem_cons_self)]
          exact ih (fun n hn => hy n (List.mem_cons_of_mem _ hn)) b
      exact stay xs hno _

/-- A scatter that sets, at an element: the update `k` that lands there after all others that do. -/
theorem scatter_last {α : Type} {s si u : Shape} {w : ℕ} (d : ScatterDims s si u) (x0 : s.Idx → α) (idx : IVec si w)
    (upd : u.Idx → α) (ι : s.Idx) (k : u.Idx) (hk : d.resultIdx? k idx = some ι)
    (hlast : ∀ k', d.resultIdx? k' idx = some ι → (u.rowMajor k').val ≤ (u.rowMajor k).val) :
    Host.scatter d (fun _ b => b) x0 idx upd ι = upd k := by
  rw [Routing.scatter_at]
  refine (foldl_last (fun n => d.resultIdx? (u.rowMajor.symm n) idx = some ι) (fun n => upd (u.rowMajor.symm n)) (u.rowMajor k)
    (by rw [Equiv.symm_apply_apply]; exact hk) (fun n hn => ?_) _ (List.pairwise_lt_finRange _) (List.mem_finRange _) _).trans
    (by rw [Equiv.symm_apply_apply])
  have := hlast _ hn
  rw [Equiv.apply_symm_apply] at this
  exact this

variable (idx : IVec S4096x2 32)

theorem lands256 (n : Fin 4096) (e : Fin 256) (b : Fin 16) (i : Fin 512) (d : Fin 256) :
    scatter_S16x512x256_S4096x2_S4096x256_1_01_01_1.resultIdx? (ix2 n e) idx = some (ix3 b i d)
      ↔ (idx (ix2 n (0 : Fin 2))).toInt = b.val ∧ (idx (ix2 n (1 : Fin 2))).toInt = i.val ∧ e.val = d.val := by
  rw [Routing.resultIdx?_eq_some]
  have h0 : scatter_S16x512x256_S4096x2_S4096x256_1_01_01_1.start (ix2 n e) idx 0 = (idx (ix2 n (0 : Fin 2))).toInt :=
    congrArg (fun q => (idx q).toInt) (funext fun a => Fin.ext (by match a with | ⟨0, _⟩ => rfl | ⟨1, _⟩ => rfl))
  have h1 : scatter_S16x512x256_S4096x2_S4096x256_1_01_01_1.start (ix2 n e) idx 1 = (idx (ix2 n (1 : Fin 2))).toInt :=
    congrArg (fun q => (idx q).toInt) (funext fun a => Fin.ext (by match a with | ⟨0, _⟩ => rfl | ⟨1, _⟩ => rfl))
  have h2 : scatter_S16x512x256_S4096x2_S4096x256_1_01_01_1.start (ix2 n e) idx 2 = 0 := rfl
  have w0 : scatter_S16x512x256_S4096x2_S4096x256_1_01_01_1.window (ix2 n e) 0 = 0 := rfl
  have w1 : scatter_S16x512x256_S4096x2_S4096x256_1_01_01_1.window (ix2 n e) 1 = 0 := rfl
  have w2 : scatter_S16x512x256_S4096x2_S4096x256_1_01_01_1.window (ix2 n e) 2 = e.val := rfl
  constructor
  · intro h
    have a0 := h 0; have a1 := h 1; have a2 := h 2
    rw [h0, w0] at a0
    rw [h1, w1] at a1
    rw [h2, w2] at a2
    exact ⟨by simpa using a0, by simpa using a1, by simpa using a2⟩
  · intro h a
    match a with
    | ⟨0, _⟩ => exact (congrArg₂ (fun x (y : ℕ) => x + (y : ℤ)) h0 w0).trans (by simpa using h.1)
    | ⟨1, _⟩ => exact (congrArg₂ (fun x (y : ℕ) => x + (y : ℤ)) h1 w1).trans (by simpa using h.2.1)
    | ⟨2, _⟩ => exact (congrArg₂ (fun x (y : ℕ) => x + (y : ℤ)) h2 w2).trans (by simpa using h.2.2)

theorem lands3 (n : Fin 4096) (e : Fin 3) (b : Fin 16) (i : Fin 512) (d : Fin 3) :
    scatter_S16x512x3_S4096x2_S4096x3_1_01_01_1.resultIdx? (ix2 n e) idx = some (ix3 b i d)
      ↔ (idx (ix2 n (0 : Fin 2))).toInt = b.val ∧ (idx (ix2 n (1 : Fin 2))).toInt = i.val ∧ e.val = d.val := by
  rw [Routing.resultIdx?_eq_some]
  have h0 : scatter_S16x512x3_S4096x2_S4096x3_1_01_01_1.start (ix2 n e) idx 0 = (idx (ix2 n (0 : Fin 2))).toInt :=
    congrArg (fun q => (idx q).toInt) (funext fun a => Fin.ext (by match a with | ⟨0, _⟩ => rfl | ⟨1, _⟩ => rfl))
  have h1 : scatter_S16x512x3_S4096x2_S4096x3_1_01_01_1.start (ix2 n e) idx 1 = (idx (ix2 n (1 : Fin 2))).toInt :=
    congrArg (fun q => (idx q).toInt) (funext fun a => Fin.ext (by match a with | ⟨0, _⟩ => rfl | ⟨1, _⟩ => rfl))
  have h2 : scatter_S16x512x3_S4096x2_S4096x3_1_01_01_1.start (ix2 n e) idx 2 = 0 := rfl
  have w0 : scatter_S16x512x3_S4096x2_S4096x3_1_01_01_1.window (ix2 n e) 0 = 0 := rfl
  have w1 : scatter_S16x512x3_S4096x2_S4096x3_1_01_01_1.window (ix2 n e) 1 = 0 := rfl
  have w2 : scatter_S16x512x3_S4096x2_S4096x3_1_01_01_1.window (ix2 n e) 2 = e.val := rfl
  constructor
  · intro h
    have a0 := h 0; have a1 := h 1; have a2 := h 2
    rw [h0, w0] at a0
    rw [h1, w1] at a1
    rw [h2, w2] at a2
    exact ⟨by simpa using a0, by simpa using a1, by simpa using a2⟩
  · intro h a
    match a with
    | ⟨0, _⟩ => exact (congrArg₂ (fun x (y : ℕ) => x + (y : ℤ)) h0 w0).trans (by simpa using h.1)
    | ⟨1, _⟩ => exact (congrArg₂ (fun x (y : ℕ) => x + (y : ℤ)) h1 w1).trans (by simpa using h.2.1)
    | ⟨2, _⟩ => exact (congrArg₂ (fun x (y : ℕ) => x + (y : ℤ)) h2 w2).trans (by simpa using h.2.2)

theorem lands1 (n : Fin 4096) (b : Fin 16) (i : Fin 512) :
    scatter_S16x512_S4096x2_S4096_n_01_01_1.resultIdx? (ix1 n) idx = some (ix2 b i)
      ↔ (idx (ix2 n (0 : Fin 2))).toInt = b.val ∧ (idx (ix2 n (1 : Fin 2))).toInt = i.val := by
  rw [Routing.resultIdx?_eq_some]
  have h0 : scatter_S16x512_S4096x2_S4096_n_01_01_1.start (ix1 n) idx 0 = (idx (ix2 n (0 : Fin 2))).toInt :=
    congrArg (fun q => (idx q).toInt) (funext fun a => Fin.ext (by match a with | ⟨0, _⟩ => rfl | ⟨1, _⟩ => rfl))
  have h1 : scatter_S16x512_S4096x2_S4096_n_01_01_1.start (ix1 n) idx 1 = (idx (ix2 n (1 : Fin 2))).toInt :=
    congrArg (fun q => (idx q).toInt) (funext fun a => Fin.ext (by match a with | ⟨0, _⟩ => rfl | ⟨1, _⟩ => rfl))
  have w0 : scatter_S16x512_S4096x2_S4096_n_01_01_1.window (ix1 n) 0 = 0 := rfl
  have w1 : scatter_S16x512_S4096x2_S4096_n_01_01_1.window (ix1 n) 1 = 0 := rfl
  constructor
  · intro h
    have a0 := h 0; have a1 := h 1
    rw [h0, w0] at a0
    rw [h1, w1] at a1
    exact ⟨by simpa using a0, by simpa using a1⟩
  · intro h a
    match a with
    | ⟨0, _⟩ => exact (congrArg₂ (fun x (y : ℕ) => x + (y : ℤ)) h0 w0).trans (by simpa using h.1)
    | ⟨1, _⟩ => exact (congrArg₂ (fun x (y : ℕ) => x + (y : ℤ)) h1 w1).trans (by simpa using h.2)

/-- Row `(b, i)` of the scatter of rows of 256 holds the row of the last token placed there … -/
theorem hit256 {α : Type} (x0 : S16x512x256.Idx → α) (upd : S4096x256.Idx → α) (n : Fin 4096) (b : Fin 16) (i : Fin 512) (d : Fin 256)
    (hb : (idx (ix2 n (0 : Fin 2))).toInt = b.val) (hi : (idx (ix2 n (1 : Fin 2))).toInt = i.val)
    (hl : ∀ n' : Fin 4096, (idx (ix2 n' (0 : Fin 2))).toInt = b.val → (idx (ix2 n' (1 : Fin 2))).toInt = i.val → n'.val ≤ n.val) :
    Host.scatter scatter_S16x512x256_S4096x2_S4096x256_1_01_01_1 (fun _ b => b) x0 idx upd (ix3 b i d) = upd (ix2 n d) := by
  refine scatter_last _ _ _ _ _ _ ((lands256 idx n d b i d).2 ⟨hb, hi, rfl⟩) fun k hk => ?_
  obtain ⟨p, q, rfl⟩ : ∃ (p : Fin 4096) (q : Fin 256), k = ix2 p q := ⟨_, _, eq_ix2 k⟩
  have h := (lands256 idx _ _ b i d).1 hk
  have := hl _ h.1 h.2.1
  rw [Shape.rowMajor_val_two, Shape.rowMajor_val_two]
  show p.val * 256 + q.val ≤ n.val * 256 + d.val
  have := h.2.2
  omega

/-- … and what was there if no token is. -/
theorem miss256 {α : Type} (x0 : S16x512x256.Idx → α) (upd : S4096x256.Idx → α) (b : Fin 16) (i : Fin 512) (d : Fin 256)
    (hn : ∀ n : Fin 4096, (idx (ix2 n (0 : Fin 2))).toInt = b.val → (idx (ix2 n (1 : Fin 2))).toInt ≠ i.val) :
    Host.scatter scatter_S16x512x256_S4096x2_S4096x256_1_01_01_1 (fun _ b => b) x0 idx upd (ix3 b i d) = x0 (ix3 b i d) := by
  refine Routing.scatter_set_miss _ _ _ _ _ fun k hk => ?_
  obtain ⟨p, q, rfl⟩ : ∃ (p : Fin 4096) (q : Fin 256), k = ix2 p q := ⟨_, _, eq_ix2 k⟩
  have h := (lands256 idx _ _ b i d).1 hk
  exact hn _ h.1 h.2.1

/-- Row `(b, i)` of the scatter of rows of 3 holds the row of the last token placed there … -/
theorem hit3 {α : Type} (x0 : S16x512x3.Idx → α) (upd : S4096x3.Idx → α) (n : Fin 4096) (b : Fin 16) (i : Fin 512) (d : Fin 3)
    (hb : (idx (ix2 n (0 : Fin 2))).toInt = b.val) (hi : (idx (ix2 n (1 : Fin 2))).toInt = i.val)
    (hl : ∀ n' : Fin 4096, (idx (ix2 n' (0 : Fin 2))).toInt = b.val → (idx (ix2 n' (1 : Fin 2))).toInt = i.val → n'.val ≤ n.val) :
    Host.scatter scatter_S16x512x3_S4096x2_S4096x3_1_01_01_1 (fun _ b => b) x0 idx upd (ix3 b i d) = upd (ix2 n d) := by
  refine scatter_last _ _ _ _ _ _ ((lands3 idx n d b i d).2 ⟨hb, hi, rfl⟩) fun k hk => ?_
  obtain ⟨p, q, rfl⟩ : ∃ (p : Fin 4096) (q : Fin 3), k = ix2 p q := ⟨_, _, eq_ix2 k⟩
  have h := (lands3 idx _ _ b i d).1 hk
  have := hl _ h.1 h.2.1
  rw [Shape.rowMajor_val_two, Shape.rowMajor_val_two]
  show p.val * 3 + q.val ≤ n.val * 3 + d.val
  have := h.2.2
  omega

/-- … and what was there if no token is. -/
theorem miss3 {α : Type} (x0 : S16x512x3.Idx → α) (upd : S4096x3.Idx → α) (b : Fin 16) (i : Fin 512) (d : Fin 3)
    (hn : ∀ n : Fin 4096, (idx (ix2 n (0 : Fin 2))).toInt = b.val → (idx (ix2 n (1 : Fin 2))).toInt ≠ i.val) :
    Host.scatter scatter_S16x512x3_S4096x2_S4096x3_1_01_01_1 (fun _ b => b) x0 idx upd (ix3 b i d) = x0 (ix3 b i d) := by
  refine Routing.scatter_set_miss _ _ _ _ _ fun k hk => ?_
  obtain ⟨p, q, rfl⟩ : ∃ (p : Fin 4096) (q : Fin 3), k = ix2 p q := ⟨_, _, eq_ix2 k⟩
  have h := (lands3 idx _ _ b i d).1 hk
  exact hn _ h.1 h.2.1

/-- Element `(b, i)` of the scatter of the keys is the key of the last token placed there … -/
theorem hit1 (x0 : IVec S16x512 32) (upd : IVec S4096 32) (n : Fin 4096) (b : Fin 16) (i : Fin 512)
    (hb : (idx (ix2 n (0 : Fin 2))).toInt = b.val) (hi : (idx (ix2 n (1 : Fin 2))).toInt = i.val)
    (hl : ∀ n' : Fin 4096, (idx (ix2 n' (0 : Fin 2))).toInt = b.val → (idx (ix2 n' (1 : Fin 2))).toInt = i.val → n'.val ≤ n.val) :
    Host.scatter scatter_S16x512_S4096x2_S4096_n_01_01_1 (fun _ b => b) x0 idx upd (ix2 b i) = upd (ix1 n) := by
  refine scatter_last _ _ _ _ _ _ ((lands1 idx n b i).2 ⟨hb, hi⟩) fun k hk => ?_
  obtain ⟨p, rfl⟩ : ∃ p : Fin 4096, k = ix1 p := ⟨_, eq_ix1 k⟩
  have h := (lands1 idx _ b i).1 hk
  have := hl _ h.1 h.2
  rw [Shape.rowMajor_val_one, Shape.rowMajor_val_one]
  exact this

/-- … and what was there if no token is. -/
theorem miss1 (x0 : IVec S16x512 32) (upd : IVec S4096 32) (b : Fin 16) (i : Fin 512)
    (hn : ∀ n : Fin 4096, (idx (ix2 n (0 : Fin 2))).toInt = b.val → (idx (ix2 n (1 : Fin 2))).toInt ≠ i.val) :
    Host.scatter scatter_S16x512_S4096x2_S4096_n_01_01_1 (fun _ b => b) x0 idx upd (ix2 b i) = x0 (ix2 b i) := by
  refine Routing.scatter_set_miss _ _ _ _ _ fun k hk => ?_
  obtain ⟨p, rfl⟩ : ∃ p : Fin 4096, k = ix1 p := ⟨_, eq_ix1 k⟩
  have h := (lands1 idx _ b i).1 hk
  exact hn _ h.1 h.2

end Cert.ReferenceIdeal.Scatter

end
-- ==== Proof.ReferenceIdeal.Hidden.lean ====
/- The reference's hidden rows: the embedded tokens of the batch's segment, and below them the embedding of a row of
   zeros. -/
module

public import proofs.«01_k».proof.Proof.ReferenceIdeal.Place
public import proofs.«01_k».proof.Proof.ReferenceIdeal.Scatter
public import proofs.«01_k».proof.Proof.Spec
public import Idealize.ShloMosaic.Lib.Pointwise

@[expose] public section

noncomputable section

namespace Cert.ReferenceIdeal.Hidden

open Cert.ReferenceIdeal Cert.ReferenceIdeal.Gen Cert.ReferenceIdeal.Value Cert.ReferenceIdeal.Place
open Idealize.ShloMosaic Idealize.ShloMosaic.StableHlo

variable (V0 : Valuation τ sig (Elt Ideal))

/-! The argument arrays. -/

abbrev flat : FVec Ideal S4096x256 .f32 := V0 (Proc.devRef .tc main_arg0)
abbrev xyz : FVec Ideal S4096x3 .f32 := V0 (Proc.devRef .tc main_arg1)
abbrev keys : IVec S4096 32 := V0 (Proc.devRef .tc main_arg2)
abbrev wout : FVec Ideal S256x256 .f32 := V0 (Proc.devRef .tc main_arg4)
abbrev bout : FVec Ideal S256 .f32 := V0 (Proc.devRef .tc main_arg5)
abbrev wpos : FVec Ideal S3x256 .f32 := V0 (Proc.devRef .tc main_arg6)
abbrev bpos : FVec Ideal S256 .f32 := V0 (Proc.devRef .tc main_arg7)

/-- The rectified features of the tokens. -/
def feats : FVec Ideal S4096x256 .f32 :=
  maximumf (addf (Host.dotGeneral dot_S4096x256_S256x256_S4096x256_1_0_0_1_n_n none (flat V0) (wout V0)) (broadcastInDim S4096x256 ![0, 1] bcast_S1x256_S4096x256_0_1 (broadcastInDim S1x256 ![1] bcast_S256_S1x256_1 (bout V0)))) (broadcastInDim S4096x256 ![] bcast_S_S4096x256 (constant S_ .f32 0x00000000#32))

theorem feats_apply (n : Fin 4096) (d : Fin 256) :
    feats V0 (ix2 n d) = max (∑ c : Fin 256, flat V0 (ix2 n c) * wout V0 (ix2 c d) + bout V0 (ix1 d)) 0 := by
  unfold feats
  generalize flat V0 = a
  generalize wout V0 = w
  generalize bout V0 = b
  pointwise []

/-- The features, spread over the batches. -/
def spreadFeats : FVec Ideal S16x512x256 .f32 :=
  Host.scatter scatter_S16x512x256_S4096x2_S4096x256_1_01_01_1 (fun _ b => b) (broadcastInDim S16x512x256 ![] bcast_S_S16x512x256 (constant S_ .f32 0x00000000#32)) (pairs V0) (feats V0)

/-- The positions, spread. -/
def spreadXyz : FVec Ideal S16x512x3 .f32 :=
  Host.scatter scatter_S16x512x3_S4096x2_S4096x3_1_01_01_1 (fun _ b => b) (broadcastInDim S16x512x3 ![] bcast_S_S16x512x3 (constant S_ .f32 0x00000000#32)) (pairs V0) (xyz V0)

/-- The keys, spread. -/
def spreadKeys : IVec S16x512 32 :=
  Host.scatter scatter_S16x512_S4096x2_S4096_n_01_01_1 (fun _ b => b) (broadcastInDim S16x512 ![] bcast_S_S16x512 (constantI S_ 32 0#32)) (pairs V0) (keys V0)

theorem hidden_eq : res_main_v76 V0 = addf (addf (spreadFeats V0) (Host.dotGeneral dot_S16x512x3_S3x256_S16x512x256_2_0_01_1_n_n none (spreadXyz V0) (wpos V0)))
    (broadcastInDim S16x512x256 ![0, 1, 2] bcast_S1x1x256_S16x512x256_0_1_2 (broadcastInDim S1x1x256 ![2] bcast_S256_S1x1x256_2 (bpos V0))) := rfl

theorem bias_apply (p : FVec Ideal S256 .f32) (b : Fin 16) (i : Fin 512) (d : Fin 256) :
    broadcastInDim S16x512x256 ![0, 1, 2] bcast_S1x1x256_S16x512x256_0_1_2 (broadcastInDim S1x1x256 ![2] bcast_S256_S1x1x256_2 p) (ix3 b i d) = p (ix1 d) :=
  congrArg p (funext fun a => Fin.ext (by match a with | ⟨0, _⟩ => rfl))

theorem position_apply (y : FVec Ideal S16x512x3 .f32) (w : FVec Ideal S3x256 .f32) (b : Fin 16) (i : Fin 512) (d : Fin 256) :
    Host.dotGeneral dot_S16x512x3_S3x256_S16x512x256_2_0_01_1_n_n none y w (ix3 b i d) = ∑ c : Fin 3, y (ix3 b i c) * w (ix2 c d) := by
  pointwise []

theorem addf_addf (x y z : FVec Ideal S16x512x256 .f32) (k : S16x512x256.Idx) : addf (addf x y) z k = x k + y k + z k := rfl

theorem hidden_spread (b : Fin 16) (i : Fin 512) (d : Fin 256) : res_main_v76 V0 (ix3 b i d)
    = spreadFeats V0 (ix3 b i d) + ∑ c : Fin 3, spreadXyz V0 (ix3 b i c) * wpos V0 (ix2 c d) + bpos V0 (ix1 d) := by
  rw [hidden_eq, addf_addf, bias_apply, position_apply]

/-- A token's embedding, from the arrays. -/
def tok (t : Fin 4096) (d : Fin 256) : EReal :=
  Spec.embed (fun c => flat V0 (ix2 t c)) (fun c => xyz V0 (ix2 t c)) (fun c d => wout V0 (ix2 c d)) (fun d => bout V0 (ix1 d))
    (fun c d => wpos V0 (ix2 c d)) (fun d => bpos V0 (ix1 d)) d

/-- Where the segment of batch `b` begins, -/
def lo (b : Fin 16) : ℕ := (cu V0 (ValueIdx.ix1 b.castSucc)).toNat

/-- and where it ends. -/
def hi (b : Fin 16) : ℕ := (cu V0 (ValueIdx.ix1 b.succ)).toNat

variable {V0} (h : Offsets.Rising (cu V0)) {b : Fin 16} {i : Fin 512}

include h

/-- A token placed in batch `b` and row `i`: one of the segment, or, in row 0, one before the first offset. -/
theorem placed (n : Fin 4096) (hb : (pairs V0 (ValueIdx.ix2 n (0 : Fin 2))).toInt = b.val)
    (hi' : (pairs V0 (ValueIdx.ix2 n (1 : Fin 2))).toInt = i.val) :
    (lo V0 b ≤ n.val ∧ n.val < hi V0 b ∧ min (n.val - lo V0 b) 511 = i.val) ∨ (n.val < lo V0 b ∧ i.val = 0) := by
  by_cases hn : n.val < (cu V0 (ValueIdx.ix1 (0 : Fin 17))).toNat
  · rw [pairs_row_before h hn] at hi'
    exact .inr ⟨lt_of_lt_of_le hn (h.mono (Fin.zero_le b.castSucc)), by omega⟩
  obtain ⟨b', h1, h2⟩ := h.segment n (by omega)
  rw [pairs_batch h h1 h2] at hb
  have : b' = b := Fin.ext (by omega)
  subst this
  rw [pairs_row h h1 h2] at hi'
  exact .inl ⟨h1, h2, by unfold lo; omega⟩

theorem src_val (hl : i.val < hi V0 b - lo V0 b) :
    (Spec.src (lo V0 b) (hi V0 b) i).val = if i.val = 511 then hi V0 b - 1 else lo V0 b + i.val := by
  have : hi V0 b ≤ 4096 := h.le b.succ
  show (if i.val = 511 then hi V0 b - 1 else lo V0 b + i.val) % 4096 = _
  rw [Nat.mod_eq_of_lt]
  split <;> omega

theorem src_placed (hl : i.val < hi V0 b - lo V0 b) :
    (pairs V0 (ValueIdx.ix2 (Spec.src (lo V0 b) (hi V0 b) i) (0 : Fin 2))).toInt = b.val
      ∧ (pairs V0 (ValueIdx.ix2 (Spec.src (lo V0 b) (hi V0 b) i) (1 : Fin 2))).toInt = i.val
      ∧ ∀ n' : Fin 4096, (pairs V0 (ValueIdx.ix2 n' (0 : Fin 2))).toInt = b.val →
          (pairs V0 (ValueIdx.ix2 n' (1 : Fin 2))).toInt = i.val → n'.val ≤ (Spec.src (lo V0 b) (hi V0 b) i).val := by
  have hv := src_val h hl
  have hi5 := i.isLt
  generalize Spec.src (lo V0 b) (hi V0 b) i = n at hv ⊢
  have h1 : lo V0 b ≤ n.val := by rw [hv]; split <;> omega
  have h2 : n.val < hi V0 b := by rw [hv]; split <;> omega
  refine ⟨pairs_batch h h1 h2, (pairs_row h h1 h2).trans ?_, fun n' hb hi' => ?_⟩
  · refine congrArg Nat.cast ?_
    show min (n.val - lo V0 b) 511 = i.val
    split at hv <;> omega
  · rcases placed h n' hb hi' with this | this
    · split at hv <;> omega
    · omega

theorem none_placed (hs : lo V0 b < hi V0 b) (hl : ¬ i.val < hi V0 b - lo V0 b) (n : Fin 4096)
    (hb : (pairs V0 (ValueIdx.ix2 n (0 : Fin 2))).toInt = b.val) : (pairs V0 (ValueIdx.ix2 n (1 : Fin 2))).toInt ≠ i.val := by
  intro hi'
  rcases placed h n hb hi' with this | this <;> omega

/-- The hidden rows of a batch that holds a token. -/
theorem hidden_apply (hs : lo V0 b < hi V0 b) (d : Fin 256) : res_main_v76 V0 (ix3 b i d)
    = Spec.hidden (lo V0 b) (hi V0 b) (tok V0) (fun d => bpos V0 (ix1 d)) i d := by
  rw [hidden_spread]
  unfold Spec.hidden
  split
  · next hl =>
    obtain ⟨p0, p1, p2⟩ := src_placed h hl
    have e1 : spreadFeats V0 (ix3 b i d) = feats V0 (ix2 (Spec.src (lo V0 b) (hi V0 b) i) d) :=
      Scatter.hit256 (pairs V0) _ (feats V0) _ b i d p0 p1 p2
    have e2 : ∀ c, spreadXyz V0 (ix3 b i c) = xyz V0 (ix2 (Spec.src (lo V0 b) (hi V0 b) i) c) := fun c =>
      Scatter.hit3 (pairs V0) _ (xyz V0) _ b i c p0 p1 p2
    rw [e1, feats_apply]
    simp only [e2]
    rfl
  · next hl =>
    have e1 : spreadFeats V0 (ix3 b i d) = 0 :=
      (Scatter.miss256 (pairs V0) _ (feats V0) b i d (none_placed h hs hl)).trans Ideal.ofBits_zero_f32
    have e2 : ∀ c, spreadXyz V0 (ix3 b i c) = 0 := fun c =>
      (Scatter.miss3 (pairs V0) _ (xyz V0) b i c (none_placed h hs hl)).trans Ideal.ofBits_zero_f32
    rw [e1]
    simp only [e2, zero_mul, Finset.sum_const_zero, zero_add]

/-- A key's mask bit is set exactly in the rows of the segment. -/
theorem mask_apply (hs : lo V0 b < hi V0 b) (hk : ∀ n, keys V0 n ≠ 0#32) :
    cmpi .ne (spreadKeys V0) (broadcastInDim S16x512 ![] bcast_S_S16x512 (constantI S_ 32 0#32)) (ix2 b i)
      = if i.val < hi V0 b - lo V0 b then 1#1 else 0#1 := by
  have e : cmpi .ne (spreadKeys V0) (broadcastInDim S16x512 ![] bcast_S_S16x512 (constantI S_ 32 0#32)) (ix2 b i)
      = BitVec.ofBool (spreadKeys V0 (ix2 b i) != 0#32) := rfl
  rw [e]
  split
  · next hl =>
    obtain ⟨p0, p1, p2⟩ := src_placed h hl
    have e1 : spreadKeys V0 (ix2 b i) = keys V0 (ix1 (Spec.src (lo V0 b) (hi V0 b) i)) :=
      Scatter.hit1 (pairs V0) _ (keys V0) _ b i p0 p1 p2
    rw [e1, bne_iff_ne.2 (hk _)]
    rfl
  · next hl =>
    have e1 : spreadKeys V0 (ix2 b i) = 0#32 := Scatter.miss1 (pairs V0) _ (keys V0) b i (none_placed h hs hl)
    rw [e1]
    rfl

end Cert.ReferenceIdeal.Hidden

end
-- ==== Proof.ReferenceIdeal.Softmax.lean ====
/- The reference's masked softmax, its weighted values, the box features and the two output heads, at an element. -/
module

public import proofs.«01_k».proof.Proof.ReferenceIdeal.Heads
public import proofs.«01_k».proof.Proof.ReferenceIdeal.Hidden

@[expose] public section

noncomputable section

namespace Cert.ReferenceIdeal.Softmax

open Cert.ReferenceIdeal Cert.ReferenceIdeal.Gen Cert.ReferenceIdeal.Value Cert.ReferenceIdeal.Heads
open Idealize.ShloMosaic Idealize.ShloMosaic.StableHlo

/-- A matrix by its rows. -/
abbrev mat {p q : ℕ} (x : FVec Ideal ⟨2, ![p, q]⟩ .f32) (i : Fin p) (j : Fin q) : EReal := x (ix2 i j)

/-- The rows of one batch. -/
abbrev batch (x : FVec Ideal S16x512x256 .f32) (b : Fin 16) (i : Fin 512) (d : Fin 256) : EReal := x (ix3 b i d)

/-- The rows through a matrix, cut into heads. -/
def heads (x : FVec Ideal S16x512x256 .f32) (w : FVec Ideal S256x256 .f32) : FVec Ideal S16x4x512x64 .f32 :=
  transpose S16x4x512x64 [0, 2, 1, 3] (shapeCast _ (Host.dotGeneral dot_S16x512x256_S256x256_S16x512x256_2_0_01_1_n_n none x w) shapeCasts_S16x512x256_S16x512x4x64) transposes_S16x512x4x64_S16x4x512x64_0_2_1_3

theorem heads_apply (x : FVec Ideal S16x512x256 .f32) (w : FVec Ideal S256x256 .f32) (b : Fin 16) (n : Fin 4) (i : Fin 512) (j : Fin 64) :
    heads x w (ix4 b n i j) = Spec.lin (batch x b) (mat w) i (Spec.col n j) :=
  (cut_apply _ b n i j).trans (project_apply x w b i _)

/-- The logits, masked. -/
def logits (mask : IVec S16x512 1) (q k : FVec Ideal S16x4x512x64 .f32) : FVec Ideal S16x4x512x512 .f32 :=
  select (broadcastInDim S16x4x512x512 ![0, 1, 2, 3] bcast_S16x1x1x512_S16x4x512x512_0_1_2_3 (broadcastInDim S16x1x1x512 ![0, 3] bcast_S16x512_S16x1x1x512_0_3 mask))
    (Host.divf (Host.dotGeneral dot_S16x4x512x64_S16x4x512x64_S16x4x512x512_3_3_2_2_01_01 none q k) (broadcastInDim S16x4x512x512 ![] bcast_S_S16x4x512x512 (id (Host.sqrt (constant S_ .f32 0x42800000#32)))))
    (broadcastInDim S16x4x512x512 ![] bcast_S_S16x4x512x512 (id (constant S_ .f32 0xFF800000#32)))

theorem choose_apply (c : IVec S16x4x512x512 1) (x : FVec Ideal S16x4x512x512 .f32) (z : FVec Ideal S_ .f32) (u : FVec Ideal S_ .f32)
    (p : S16x4x512x512.Idx) :
    select c (Host.divf x (broadcastInDim S16x4x512x512 ![] bcast_S_S16x4x512x512 (id z))) (broadcastInDim S16x4x512x512 ![] bcast_S_S16x4x512x512 (id u)) p
      = Scalar.select (c p) (Ideal.div (x p) (z fun a => a.elim0)) (u fun a => a.elim0) := by
  have e : ∀ v : FVec Ideal S_ .f32, broadcastInDim S16x4x512x512 ![] bcast_S_S16x4x512x512 (id v) p = v fun a => a.elim0 :=
    fun v => congrArg v (funext fun a => a.elim0)
  have e1 : select c (Host.divf x (broadcastInDim S16x4x512x512 ![] bcast_S_S16x4x512x512 (id z))) (broadcastInDim S16x4x512x512 ![] bcast_S_S16x4x512x512 (id u)) p
      = Scalar.select (c p) (Ideal.div (x p) (broadcastInDim S16x4x512x512 ![] bcast_S_S16x4x512x512 (id z) p)) (broadcastInDim S16x4x512x512 ![] bcast_S_S16x4x512x512 (id u) p) := rfl
  rw [e1, e, e]

theorem select_if (p : Prop) [Decidable p] (x y : EReal) : Scalar.select (if p then 1#1 else 0#1) x y = if p then x else y := by
  by_cases h : p
  · rw [if_pos h, if_pos h]; rfl
  · rw [if_neg h, if_neg h]; rfl

theorem constant_apply (k : S_.Idx) : (constant S_ .f32 0xFF800000#32 : FVec Ideal S_ .f32) k = ⊥ := neg_inf

theorem chosen (c : IVec S16x4x512x512 1) (x : FVec Ideal S16x4x512x512 .f32) (p : S16x4x512x512.Idx) (r : Prop) [Decidable r]
    (hc : c p = if r then 1#1 else 0#1) :
    select c (Host.divf x (broadcastInDim S16x4x512x512 ![] bcast_S_S16x4x512x512 (id (Host.sqrt (constant S_ .f32 0x42800000#32))))) (broadcastInDim S16x4x512x512 ![] bcast_S_S16x4x512x512 (id (constant S_ .f32 0xFF800000#32))) p
      = if r then Ideal.div (x p) ((8 : ℝ) : EReal) else ⊥ := by
  rw [choose_apply, root, constant_apply, hc, select_if]

theorem masked (mask : IVec S16x512 1) (x : FVec Ideal S16x4x512x512 .f32) (len : ℕ) (b : Fin 16) (n : Fin 4) (i t : Fin 512)
    (hm : mask (ix2 b t) = if t.val < len then 1#1 else 0#1) (y : EReal) (hy : x (ix4 b n i t) = y) :
    select (broadcastInDim S16x4x512x512 ![0, 1, 2, 3] bcast_S16x1x1x512_S16x4x512x512_0_1_2_3 (broadcastInDim S16x1x1x512 ![0, 3] bcast_S16x512_S16x1x1x512_0_3 mask)) (Host.divf x (broadcastInDim S16x4x512x512 ![] bcast_S_S16x4x512x512 (id (Host.sqrt (constant S_ .f32 0x42800000#32))))) (broadcastInDim S16x4x512x512 ![] bcast_S_S16x4x512x512 (id (constant S_ .f32 0xFF800000#32))) (ix4 b n i t)
      = if t.val < len then Ideal.div y ((8 : ℝ) : EReal) else ⊥ := by
  rw [← hy]
  exact chosen _ _ _ _ ((spread_mask mask b n i t).trans hm)

theorem logits_apply (mask : IVec S16x512 1) (q k : FVec Ideal S16x4x512x64 .f32) (len : ℕ) (b : Fin 16) (n : Fin 4) (i t : Fin 512)
    (hm : mask (ix2 b t) = if t.val < len then 1#1 else 0#1) :
    logits mask q k (ix4 b n i t)
      = if t.val < len then Ideal.div (∑ j : Fin 64, q (ix4 b n i j) * k (ix4 b n t j)) ((8 : ℝ) : EReal) else ⊥ :=
  masked mask _ len b n i t hm _ (score_apply q k b n i t)

/-- The exponentials, the greatest logit of the row subtracted. -/
def weights (l : FVec Ideal S16x4x512x512 .f32) : FVec Ideal S16x4x512x512 .f32 :=
  Host.exp (subf l (broadcastInDim S16x4x512x512 ![0, 1, 2, 3] bcast_S16x4x512x1_S16x4x512x512_0_1_2_3 (broadcastInDim S16x4x512x1 ![0, 1, 2] bcast_S16x4x512_S16x4x512x1_0_1_2 (maximumf (broadcastInDim S16x4x512 ![] bcast_S_S16x4x512 (constant S_ .f32 0xFF800000#32)) (Host.reduce FloatOps.maximumf l (constant S_ .f32 0xFF800000#32) reducesTo_S16x4x512x512_S16x4x512_d3 h_S_)))))

theorem exp_apply (l r : FVec Ideal S16x4x512x512 .f32) (k : S16x4x512x512.Idx) : Host.exp (subf l r) k = Ideal.exp (l k - r k) := rfl

theorem max_apply (g : FVec Ideal S16x4x512 .f32) (k : S16x4x512.Idx) (y : EReal) (hy : g k = y) :
    maximumf (broadcastInDim S16x4x512 ![] bcast_S_S16x4x512 (constant S_ .f32 0xFF800000#32)) g k = y := by
  have e : maximumf (broadcastInDim S16x4x512 ![] bcast_S_S16x4x512 (constant S_ .f32 0xFF800000#32)) g k
      = max (Ideal.ofBits .f32 0xFF800000#32) (g k) := rfl
  rw [e, neg_inf, max_bot_left, hy]

theorem weigh_row (l : FVec Ideal S16x4x512x512 .f32) (g : FVec Ideal S16x4x512 .f32) (b : Fin 16) (n : Fin 4) (i t : Fin 512) (y : EReal)
    (hy : g (ix3 b n i) = y) :
    Host.exp (subf l (broadcastInDim S16x4x512x512 ![0, 1, 2, 3] bcast_S16x4x512x1_S16x4x512x512_0_1_2_3 (broadcastInDim S16x4x512x1 ![0, 1, 2] bcast_S16x4x512_S16x4x512x1_0_1_2 g))) (ix4 b n i t)
      = Ideal.exp (l (ix4 b n i t) - y) := by
  rw [exp_apply, spread_row, hy]

theorem weights_apply (l : FVec Ideal S16x4x512x512 .f32) (b : Fin 16) (n : Fin 4) (i t : Fin 512) :
    weights l (ix4 b n i t)
      = Ideal.exp (l (ix4 b n i t) - Finset.univ.fold max ⊥ (fun t : Fin 512 => l (ix4 b n i t))) :=
  weigh_row l _ b n i t _ (max_apply _ _ _ (greatest_apply l b n i))

/-- The weighted values, every weight over the row's sum. -/
def mixed (p : FVec Ideal S16x4x512x512 .f32) (v : FVec Ideal S16x4x512x64 .f32) : FVec Ideal S16x4x512x64 .f32 :=
  Host.dotGeneral dot_S16x4x512x512_S16x4x512x64_S16x4x512x64_3_2_2_3_01_01 none (Host.divf p (broadcastInDim S16x4x512x512 ![0, 1, 2, 3] bcast_S16x4x512x1_S16x4x512x512_0_1_2_3 (broadcastInDim S16x4x512x1 ![0, 1, 2] bcast_S16x4x512_S16x4x512x1_0_1_2 (Host.reduceAdd p (constant S_ .f32 0x00000000#32) reducesTo_S16x4x512x512_S16x4x512_d3 h_S_)))) v

theorem div_apply (p g : FVec Ideal S16x4x512x512 .f32) (k : S16x4x512x512.Idx) : Host.divf p g k = Ideal.div (p k) (g k) := rfl

theorem mixed_apply (p : FVec Ideal S16x4x512x512 .f32) (v : FVec Ideal S16x4x512x64 .f32) (b : Fin 16) (n : Fin 4) (i : Fin 512) (j : Fin 64) :
    mixed p v (ix4 b n i j)
      = ∑ t : Fin 512, Ideal.div (p (ix4 b n i t)) (∑ u : Fin 512, p (ix4 b n i u)) * v (ix4 b n t j) := by
  unfold mixed
  rw [weigh_apply]
  refine Finset.sum_congr rfl fun t _ => congrArg (· * v (ix4 b n t j)) ?_
  rw [← total_apply]
  generalize Host.reduceAdd p (constant S_ .f32 0x00000000#32) reducesTo_S16x4x512x512_S16x4x512_d3 h_S_ = g
  rw [← spread_row g b n i t]
  exact div_apply _ _ _

/-- The results of the heads through the output layer, added to the rows. -/
def boxes (x : FVec Ideal S16x512x256 .f32) (z : FVec Ideal S16x4x512x64 .f32) (w : FVec Ideal S256x256 .f32) : FVec Ideal S16x512x256 .f32 :=
  addf x (Host.dotGeneral dot_S16x512x256_S256x256_S16x512x256_2_0_01_1_n_n none (shapeCast _ (transpose S16x512x4x64 [0, 2, 1, 3] z transposes_S16x4x512x64_S16x512x4x64_0_2_1_3) shapeCasts_S16x512x4x64_S16x512x256) w)

theorem boxes_apply (x : FVec Ideal S16x512x256 .f32) (z : FVec Ideal S16x4x512x64 .f32) (w : FVec Ideal S256x256 .f32) (b : Fin 16) (i : Fin 512) (d : Fin 256) :
    boxes x z w (ix3 b i d) = Spec.box (batch x b) (Spec.byHead fun n j => z (ix4 b n i j)) (mat w) i d := by
  unfold boxes Spec.box
  have e : ∀ y : FVec Ideal S16x512x256 .f32, addf x y (ix3 b i d) = x (ix3 b i d) + y (ix3 b i d) := fun _ => rfl
  rw [e, project_apply]
  unfold Spec.lin
  refine congrArg (x (ix3 b i d) + ·) (Finset.sum_congr rfl fun c _ => congrArg (· * w (ix2 c d)) ?_)
  obtain ⟨n, j, rfl⟩ := Spec.col_surj c
  rw [Spec.byHead_col]
  exact join_apply z b n i j

/-- The coordinates. -/
def coords (x : FVec Ideal S16x512x256 .f32) (w : FVec Ideal S256x6 .f32) (p : FVec Ideal S6 .f32) : FVec Ideal S16x512x6 .f32 :=
  addf (Host.dotGeneral dot_S16x512x256_S256x6_S16x512x6_2_0_01_1_n_n none x w) (broadcastInDim S16x512x6 ![0, 1, 2] bcast_S1x1x6_S16x512x6_0_1_2 (broadcastInDim S1x1x6 ![2] bcast_S6_S1x1x6_2 p))

theorem coords_apply (x : FVec Ideal S16x512x256 .f32) (w : FVec Ideal S256x6 .f32) (p : FVec Ideal S6 .f32) (b : Fin 16) (i : Fin 512) (j : Fin 6) :
    coords x w p (ix3 b i j)
      = Spec.out (batch x b i) (mat w) (fun j => p (ix1 j)) j := by
  have e : ∀ y z : FVec Ideal S16x512x6 .f32, addf y z (ix3 b i j) = y (ix3 b i j) + z (ix3 b i j) := fun _ _ => rfl
  have e1 : broadcastInDim S16x512x6 ![0, 1, 2] bcast_S1x1x6_S16x512x6_0_1_2 (broadcastInDim S1x1x6 ![2] bcast_S6_S1x1x6_2 p) (ix3 b i j) = p (ix1 j) :=
    congrArg p (funext fun a => Fin.ext (by match a with | ⟨0, _⟩ => rfl))
  have e2 : Host.dotGeneral dot_S16x512x256_S256x6_S16x512x6_2_0_01_1_n_n none x w (ix3 b i j) = ∑ c : Fin 256, x (ix3 b i c) * w (ix2 c j) := by
    pointwise []
  unfold coords
  rw [e, e1, e2]
  rfl

/-- The classes. -/
def classes (x : FVec Ideal S16x512x256 .f32) (w : FVec Ideal S256x18 .f32) (p : FVec Ideal S18 .f32) : FVec Ideal S16x512x18 .f32 :=
  addf (Host.dotGeneral dot_S16x512x256_S256x18_S16x512x18_2_0_01_1_n_n none x w) (broadcastInDim S16x512x18 ![0, 1, 2] bcast_S1x1x18_S16x512x18_0_1_2 (broadcastInDim S1x1x18 ![2] bcast_S18_S1x1x18_2 p))

theorem classes_apply (x : FVec Ideal S16x512x256 .f32) (w : FVec Ideal S256x18 .f32) (p : FVec Ideal S18 .f32) (b : Fin 16) (i : Fin 512) (j : Fin 18) :
    classes x w p (ix3 b i j)
      = Spec.out (batch x b i) (mat w) (fun j => p (ix1 j)) j := by
  have e : ∀ y z : FVec Ideal S16x512x18 .f32, addf y z (ix3 b i j) = y (ix3 b i j) + z (ix3 b i j) := fun _ _ => rfl
  have e1 : broadcastInDim S16x512x18 ![0, 1, 2] bcast_S1x1x18_S16x512x18_0_1_2 (broadcastInDim S1x1x18 ![2] bcast_S18_S1x1x18_2 p) (ix3 b i j) = p (ix1 j) :=
    congrArg p (funext fun a => Fin.ext (by match a with | ⟨0, _⟩ => rfl))
  have e2 : Host.dotGeneral dot_S16x512x256_S256x18_S16x512x18_2_0_01_1_n_n none x w (ix3 b i j) = ∑ c : Fin 256, x (ix3 b i c) * w (ix2 c j) := by
    pointwise []
  unfold classes
  rw [e, e1, e2]
  rfl

end Cert.ReferenceIdeal.Softmax

end
-- ==== Proof.ReferenceIdeal.Results.lean ====
/- What the reference leaves in its two result arrays, from its argument arrays: the box features of `Spec` through an
   output head. -/
module

public import proofs.«01_k».proof.Proof.ReferenceIdeal.Softmax

@[expose] public section

noncomputable section

namespace Cert.ReferenceIdeal.Results

open Cert.ReferenceIdeal Cert.ReferenceIdeal.Gen Cert.ReferenceIdeal.Value Cert.ReferenceIdeal.Heads Cert.ReferenceIdeal.Place
open Cert.ReferenceIdeal.Softmax Cert.ReferenceIdeal.Hidden
open Idealize.ShloMosaic Idealize.ShloMosaic.StableHlo

variable (V0 : Valuation τ sig (Elt Ideal))

abbrev wq : FVec Ideal S256x256 .f32 := V0 (Proc.devRef .tc main_arg8)
abbrev wk : FVec Ideal S256x256 .f32 := V0 (Proc.devRef .tc main_arg9)
abbrev wv : FVec Ideal S256x256 .f32 := V0 (Proc.devRef .tc main_arg10)
abbrev wo : FVec Ideal S256x256 .f32 := V0 (Proc.devRef .tc main_arg11)

/-- Where a key is not zero. -/
def mask : IVec S16x512 1 := cmpi .ne (spreadKeys V0) (broadcastInDim S16x512 ![] bcast_S_S16x512 (constantI S_ 32 0#32))

theorem logits_eq : res_main_v92 V0 = logits (mask V0) (heads (res_main_v76 V0) (wq V0)) (heads (res_main_v76 V0) (wk V0)) := rfl

theorem weights_eq : res_main_v99 V0 = weights (res_main_v92 V0) := rfl

theorem boxes_eq : res_main_v108 V0 = boxes (res_main_v76 V0) (mixed (res_main_v99 V0) (heads (res_main_v76 V0) (wv V0))) (wo V0) := rfl

variable {V0} (h : Offsets.Rising (cu V0)) (hk : ∀ n, keys V0 n ≠ 0#32)

include h hk

theorem logits_spec (b : Fin 16) (hs : lo V0 b < hi V0 b) (n : Fin 4) (i t : Fin 512) : res_main_v92 V0 (ix4 b n i t)
    = Spec.logits (hi V0 b - lo V0 b) (Spec.lin (batch (res_main_v76 V0) b) (mat (wq V0))) (Spec.lin (batch (res_main_v76 V0) b) (mat (wk V0))) n i t := by
  rw [logits_eq, logits_apply (mask V0) _ _ (hi V0 b - lo V0 b) b n i t (mask_apply h hs hk)]
  unfold Spec.logits Spec.score
  simp only [heads_apply]

/-- The box features of a batch that holds a token. -/
theorem boxes_spec (b : Fin 16) (hs : lo V0 b < hi V0 b) (i : Fin 512) (d : Fin 256) : res_main_v108 V0 (ix3 b i d)
    = Spec.boxSoftmax (hi V0 b - lo V0 b) (Spec.hidden (lo V0 b) (hi V0 b) (tok V0) (fun d => bpos V0 (ix1 d)))
        (mat (wq V0)) (mat (wk V0)) (mat (wv V0)) (mat (wo V0)) i d := by
  have hh : batch (res_main_v76 V0) b = Spec.hidden (lo V0 b) (hi V0 b) (tok V0) (fun d => bpos V0 (ix1 d)) :=
    funext fun i => funext fun d => hidden_apply h hs d
  rw [boxes_eq, boxes_apply, ← hh]
  unfold Spec.boxSoftmax
  refine congrArg (fun A => Spec.box (batch (res_main_v76 V0) b) (Spec.byHead A) (mat (wo V0)) i d) (funext fun n => funext fun j => ?_)
  rw [mixed_apply, weights_eq]
  simp only [weights_apply, heads_apply, logits_spec h hk b hs]
  rfl

end Cert.ReferenceIdeal.Results

end
-- ==== Proof.Decode.lean ====
/- What the precondition of the claims say, element by element. -/
module

public import proofs.«01_k».proof.Defs
public import proofs.«01_k».proof.Proof.Range
public import Idealize.ShloMosaic.Lib.ValueIdxCore
public import Idealize.ShloMosaic.PureOps.Ideal

@[expose] public section

noncomputable section

namespace Cert.Decode

open Idealize.ShloMosaic Idealize.ShloMosaic.ValueIdx

/-- An extended real is a real number if its absolute value is below infinity. -/
theorem real_of_abs_lt (x : EReal) (h : max x (-x) < ⊤) : ∃ r : ℝ, x = r := by
  induction x using EReal.rec with
  | bot => simp at h
  | coe r => exact ⟨r, rfl⟩
  | top => simp at h

section Ok

variable [Cert.Pre_inputs_ok.Facts]

open Cert.Pre_inputs_ok

/-- The first ten argument arrays, as `inputs_ok` admits them. -/
structure Ok (a0 : FVec Ideal S4096x256 .f32) (a1 : FVec Ideal S4096x3 .f32) (a2 : IVec S4096 32) (a3 : IVec S17 32)
    (a4 : FVec Ideal S256x256 .f32) (a5 : FVec Ideal S256 .f32) (a6 : FVec Ideal S3x256 .f32) (a7 : FVec Ideal S256 .f32)
    (a8 a9 : FVec Ideal S256x256 .f32) : Prop where
  first : 0 ≤ (a3 (ix1 (0 : Fin 17))).toInt
  last : a3 (ix1 (16 : Fin 17)) = 4096#32
  sle : ∀ b : Fin 16, (a3 (ix1 b.castSucc)).toInt ≤ (a3 (ix1 b.succ)).toInt
  keys : ∀ n, a2 n ≠ 0#32
  flat : ∀ i, ∃ r : ℝ, a0 i = (r : EReal)
  xyz : ∀ i, ∃ r : ℝ, a1 i = (r : EReal)
  wout : ∀ i, ∃ r : ℝ, a4 i = (r : EReal)
  bout : ∀ i, ∃ r : ℝ, a5 i = (r : EReal)
  wpos : ∀ i, ∃ r : ℝ, a6 i = (r : EReal)
  bpos : ∀ i, ∃ r : ℝ, a7 i = (r : EReal)
  wq : ∀ i, ∃ r : ℝ, a8 i = (r : EReal)
  wk : ∀ i, ∃ r : ℝ, a9 i = (r : EReal)

theorem real_of_word {s : Shape} (x : FVec Ideal s .f32) (hb : S_.BroadcastsInDim s ![])
    (h : cmpf .olt (Host.absf x) (broadcastInDim s ![] hb (constant (F := Ideal) S_ .f32 0x7F800000#32)) = fun _ => 1#1) (i : s.Idx) :
    ∃ r : ℝ, x i = (r : EReal) := by
  have e := congrFun h i
  have e' : BitVec.ofBool (decide (max (x i) (-(x i)) < Ideal.ofBits .f32 0x7F800000#32)) = 1#1 := e
  rw [ofBool_one, decide_eq_true_eq, show Ideal.ofBits .f32 0x7F800000#32 = ⊤ by simp [Ideal.ofBits, Ideal.ieee]] at e'
  exact real_of_abs_lt _ e'

/-- `inputs_ok`, decoded. -/
theorem ok (a0 : FVec Ideal S4096x256 .f32) (a1 : FVec Ideal S4096x3 .f32) (a2 : IVec S4096 32) (a3 : IVec S17 32)
    (a4 : FVec Ideal S256x256 .f32) (a5 : FVec Ideal S256 .f32) (a6 : FVec Ideal S3x256 .f32) (a7 : FVec Ideal S256 .f32)
    (a8 a9 a10 a11 : FVec Ideal S256x256 .f32) (a12 : FVec Ideal S256x18 .f32) (a13 : FVec Ideal S18 .f32)
    (a14 : FVec Ideal S256x6 .f32) (a15 : FVec Ideal S6 .f32)
    (h : (fn a0 a1 a2 a3 a4 a5 a6 a7 a8 a9 a10 a11 a12 a13 a14 a15).1 = (fun _ => 1#1)
      ∧ (fn a0 a1 a2 a3 a4 a5 a6 a7 a8 a9 a10 a11 a12 a13 a14 a15).2.1 = (fun _ => 1#1)
      ∧ (fn a0 a1 a2 a3 a4 a5 a6 a7 a8 a9 a10 a11 a12 a13 a14 a15).2.2.1 = (fun _ => 1#1)
      ∧ (fn a0 a1 a2 a3 a4 a5 a6 a7 a8 a9 a10 a11 a12 a13 a14 a15).2.2.2.1 = (fun _ => 1#1)
      ∧ (fn a0 a1 a2 a3 a4 a5 a6 a7 a8 a9 a10 a11 a12 a13 a14 a15).2.2.2.2.1 = (fun _ => 1#1)
      ∧ (fn a0 a1 a2 a3 a4 a5 a6 a7 a8 a9 a10 a11 a12 a13 a14 a15).2.2.2.2.2.1 = (fun _ => 1#1)
      ∧ (fn a0 a1 a2 a3 a4 a5 a6 a7 a8 a9 a10 a11 a12 a13 a14 a15).2.2.2.2.2.2.1 = (fun _ => 1#1)
      ∧ (fn a0 a1 a2 a3 a4 a5 a6 a7 a8 a9 a10 a11 a12 a13 a14 a15).2.2.2.2.2.2.2.1 = (fun _ => 1#1)
      ∧ (fn a0 a1 a2 a3 a4 a5 a6 a7 a8 a9 a10 a11 a12 a13 a14 a15).2.2.2.2.2.2.2.2.1 = (fun _ => 1#1)
      ∧ (fn a0 a1 a2 a3 a4 a5 a6 a7 a8 a9 a10 a11 a12 a13 a14 a15).2.2.2.2.2.2.2.2.2.1 = (fun _ => 1#1)
      ∧ (fn a0 a1 a2 a3 a4 a5 a6 a7 a8 a9 a10 a11 a12 a13 a14 a15).2.2.2.2.2.2.2.2.2.2.1 = (fun _ => 1#1)
      ∧ (fn a0 a1 a2 a3 a4 a5 a6 a7 a8 a9 a10 a11 a12 a13 a14 a15).2.2.2.2.2.2.2.2.2.2.2 = (fun _ => 1#1)) :
    Ok a0 a1 a2 a3 a4 a5 a6 a7 a8 a9 := by
  obtain ⟨h0, h1, h2, h3, h4, h5, h6, h7, h8, h9, h10, h11⟩ := h
  refine ⟨?_, ?_, ?_, ?_, real_of_word a0 _ h4, real_of_word a1 _ h5, real_of_word a4 _ h6, real_of_word a5 _ h7,
    real_of_word a6 _ h8, real_of_word a7 _ h9, real_of_word a8 _ h10, real_of_word a9 _ h11⟩
  · have e := congrFun h0 (ix1 (0 : Fin 1))
    have e' : BitVec.ofBool (BitVec.sle 0#32 (a3 _)) = 1#1 := e
    rw [ofBool_one, BitVec.sle, decide_eq_true_eq] at e'
    exact e'.trans (le_of_eq (congrArg (fun k => (a3 k).toInt) (funext fun d => Fin.ext (by match d with | ⟨0, _⟩ => rfl))))
  · have e := congrFun h1 (ix1 (0 : Fin 1))
    have e' : BitVec.ofBool (a3 _ == 4096#32) = 1#1 := e
    rw [ofBool_one, beq_iff_eq] at e'
    rw [← e']
    exact congrArg a3 (funext fun d => Fin.ext (by match d with | ⟨0, _⟩ => rfl))
  · intro b
    have e := congrFun h2 (ix1 b)
    have e' : BitVec.ofBool (BitVec.sle (a3 _) (a3 _)) = 1#1 := e
    rw [ofBool_one, BitVec.sle, decide_eq_true_eq] at e'
    convert e' using 3
    · exact funext fun d => Fin.ext (by match d with | ⟨0, _⟩ => show b.val = 0 + b.val; omega)
    · exact funext fun d => Fin.ext (by match d with | ⟨0, _⟩ => show b.val + 1 = 1 + b.val; omega)
  · intro n
    have e := congrFun h3 n
    have e' : BitVec.ofBool (a2 n != 0#32) = 1#1 := e
    rw [ofBool_one, bne_iff_ne] at e'
    exact e'

end Ok

/-- Offsets that rise to 4096 from 0 or above lie between. -/
theorem mono_le (n : Fin 17 → ℤ) (h0 : 0 ≤ n 0) (h16 : n 16 = 4096) (hs : ∀ b : Fin 16, n b.castSucc ≤ n b.succ) (b : Fin 17) :
    0 ≤ n b ∧ n b ≤ 4096 := by
  have hm : Monotone n := Fin.monotone_iff_le_succ.2 hs
  exact ⟨h0.trans (hm (Fin.zero_le b)), h16 ▸ hm (Fin.le_last b)⟩

/-- The offsets that `inputs_ok` admits are numbers from 0 to 4096. -/
theorem Ok.le [Cert.Pre_inputs_ok.Facts] {a0 a1 a2 a3 a4 a5 a6 a7 a8 a9} (h : Ok a0 a1 a2 a3 a4 a5 a6 a7 a8 a9)
    (y : Cert.Pre_inputs_ok.S17.Idx) : (a3 y).toNat ≤ 4096 := by
  obtain ⟨b, rfl⟩ : ∃ b, y = ix1 b := ⟨y 0, eq_ix1 y⟩
  have := mono_le (fun b => (a3 (ix1 b)).toInt) h.first (by rw [h.last]; rfl) h.sle b
  simp only [BitVec.toInt] at this
  omega

end Cert.Decode

end
-- ==== Proof.Selected.lean ====
/- What `inputs_ok` and `nonempty` say of the offsets: they rise to 4096, and the mask selects the batches whose
   segment holds a token. -/
module

public import proofs.«01_k».proof.Proof.Decode
public import proofs.«01_k».proof.Proof.Offsets

@[expose] public section

noncomputable section

namespace Cert.Decode

open Idealize.ShloMosaic Idealize.ShloMosaic.ValueIdx

/-- The offsets that `inputs_ok` admits rise. -/
theorem Ok.rising [Cert.Pre_inputs_ok.Facts] {a0 a1 a2 a3 a4 a5 a6 a7 a8 a9} (h : Ok a0 a1 a2 a3 a4 a5 a6 a7 a8 a9) :
    Offsets.Rising a3 where
  last := by rw [h.last]; rfl
  step b := by
    have hs := h.sle b
    have h1 := h.le (ix1 b.castSucc)
    have h2 := h.le (ix1 b.succ)
    rw [BitVec.toInt_eq_toNat_of_lt (by omega), BitVec.toInt_eq_toNat_of_lt (by omega)] at hs
    omega

/-- Where the signed order puts an offset before the next. -/
theorem below_of_word (a3 : IVec Cert.On_nonempty.S17 32) (hle : ∀ y, (a3 y).toNat ≤ 4096) (u v : Cert.On_nonempty.S17.Idx)
    (e : BitVec.ofBool (BitVec.slt (a3 u) (a3 v)) = 1#1) : (a3 u).toNat < (a3 v).toNat := by
  have h1 := hle u
  have h2 := hle v
  rw [ofBool_one, BitVec.slt, decide_eq_true_eq, BitVec.toInt_eq_toNat_of_lt (by omega),
    BitVec.toInt_eq_toNat_of_lt (by omega)] at e
  omega

section Mask

variable [Cert.On_nonempty.Facts]

open Cert.On_nonempty

variable (a0 : FVec Ideal S4096x256 .f32) (a1 : FVec Ideal S4096x3 .f32) (a2 : IVec S4096 32) (a3 : IVec S17 32)
    (a4 : FVec Ideal S256x256 .f32) (a5 : FVec Ideal S256 .f32) (a6 : FVec Ideal S3x256 .f32) (a7 : FVec Ideal S256 .f32)
    (a8 a9 a10 a11 : FVec Ideal S256x256 .f32) (a12 : FVec Ideal S256x18 .f32) (a13 : FVec Ideal S18 .f32)
    (a14 : FVec Ideal S256x6 .f32) (a15 : FVec Ideal S6 .f32) (hle : ∀ y, (a3 y).toNat ≤ 4096) (b : Fin 16) (i : Fin 512)

include hle

/-- A selected coordinate belongs to a batch that holds a token. -/
theorem coords_selected (j : Fin 6)
    (h : (fn a0 a1 a2 a3 a4 a5 a6 a7 a8 a9 a10 a11 a12 a13 a14 a15).1 (ix3 b i j) = 1#1) :
    (a3 (ix1 b.castSucc)).toNat < (a3 (ix1 b.succ)).toNat := by
  have e : BitVec.ofBool (BitVec.slt (a3 _) (a3 _)) = 1#1 := h
  have := below_of_word a3 hle _ _ e
  convert this using 3
  · exact funext fun d => Fin.ext (by match d with | ⟨0, _⟩ => show b.val = 0 + b.val; omega)
  · exact funext fun d => Fin.ext (by match d with | ⟨0, _⟩ => show b.val + 1 = 1 + b.val; omega)

/-- So does a selected class. -/
theorem classes_selected (j : Fin 18)
    (h : (fn a0 a1 a2 a3 a4 a5 a6 a7 a8 a9 a10 a11 a12 a13 a14 a15).2 (ix3 b i j) = 1#1) :
    (a3 (ix1 b.castSucc)).toNat < (a3 (ix1 b.succ)).toNat := by
  have e : BitVec.ofBool (BitVec.slt (a3 _) (a3 _)) = 1#1 := h
  have := below_of_word a3 hle _ _ e
  convert this using 3
  · exact funext fun d => Fin.ext (by match d with | ⟨0, _⟩ => show b.val = 0 + b.val; omega)
  · exact funext fun d => Fin.ext (by match d with | ⟨0, _⟩ => show b.val + 1 = 1 + b.val; omega)

end Mask

end Cert.Decode

end
-- ==== Proof.Attention.lean ====
/- The two forms of the masked attention are one function, where queries and keys are real numbers and one row at least
   is not masked: with `l` the masked logits and `M` the greatest, `exp (l - M) / ∑ exp (l - M) = exp l / ∑ exp l`. The
   values may be any extended reals: the weights are nonnegative reals. -/
module

public import proofs.«01_k».proof.Proof.Spec

@[expose] public section

noncomputable section

namespace Cert.Attention

open Idealize.ShloMosaic

/-- A nonnegative real factor enters a sum of any extended reals. -/
theorem sum_mul_real {ι : Type} (s : Finset ι) (f : ι → EReal) (c : ℝ) (hc : 0 ≤ c) :
    (∑ t ∈ s, f t) * (c : EReal) = ∑ t ∈ s, f t * (c : EReal) := by
  classical
  induction s using Finset.induction_on with
  | empty => simp
  | insert a s ha ih =>
    rw [Finset.sum_insert ha, Finset.sum_insert ha, ← ih, mul_comm, mul_comm (f a), mul_comm (∑ t ∈ s, f t)]
    exact EReal.left_distrib_of_nonneg_of_ne_top (EReal.coe_nonneg.2 hc) (EReal.coe_ne_top c) _ _

theorem sum_coe {ι : Type} (s : Finset ι) (f : ι → ℝ) : ∑ t ∈ s, (f t : EReal) = ((∑ t ∈ s, f t : ℝ) : EReal) := by
  classical
  induction s using Finset.induction_on with
  | empty => simp
  | insert a s ha ih => rw [Finset.sum_insert ha, Finset.sum_insert ha, ih, EReal.coe_add]

/-- A sum of products of reals is real. -/
theorem real_sum {ι : Type} (s : Finset ι) (f g : ι → EReal) (hf : ∀ t, ∃ r : ℝ, f t = r) (hg : ∀ t, ∃ r : ℝ, g t = r) :
    ∃ r : ℝ, ∑ t ∈ s, f t * g t = r := by
  choose a ha using hf
  choose b hb using hg
  exact ⟨∑ t ∈ s, a t * b t, by simp only [ha, hb, ← EReal.coe_mul, sum_coe]⟩

/-- The greatest of logits of which one is real, none above the reals, is real. -/
theorem real_max (l : Fin 512 → EReal) (hl : ∀ t, l t = ⊥ ∨ ∃ r : ℝ, l t = r) (t₀ : Fin 512) (h₀ : ∃ r : ℝ, l t₀ = r) :
    ∃ μ : ℝ, Finset.univ.fold max ⊥ l = μ := by
  obtain ⟨i, _, hi⟩ := Finset.exists_mem_eq_sup Finset.univ ⟨t₀, Finset.mem_univ _⟩ l
  have hle : l t₀ ≤ l i := hi ▸ Finset.le_sup (Finset.mem_univ t₀)
  obtain ⟨r, hr⟩ := h₀
  rcases hl i with h | ⟨μ, h⟩
  · rw [hr, h] at hle
    exact absurd hle (by simp)
  · exact ⟨μ, hi.trans h⟩

/-- The weights with one division after the sum, and those of the softmax. -/
theorem mix_eq (l v : Fin 512 → EReal) (hl : ∀ t, l t = ⊥ ∨ ∃ r : ℝ, l t = r) (t₀ : Fin 512) (h₀ : ∃ r : ℝ, l t₀ = r) :
    Ideal.div (∑ t, Ideal.exp (l t) * v t) (∑ t, Ideal.exp (l t)) = Spec.softmaxMix l v := by
  obtain ⟨μ, hμ⟩ := real_max l hl t₀ h₀
  obtain ⟨r₀, hr₀⟩ := h₀
  have he : ∀ t, ∃ e : ℝ, 0 ≤ e ∧ Ideal.exp (l t) = e ∧ Ideal.exp (l t - (μ : EReal)) = ((e * Real.exp (-μ) : ℝ) : EReal) := by
    intro t
    rcases hl t with h | ⟨r, h⟩
    · exact ⟨0, le_refl _, by rw [h]; rfl, by rw [h, zero_mul]; rfl⟩
    · refine ⟨Real.exp r, (Real.exp_pos r).le, by rw [h]; rfl, ?_⟩
      rw [h, ← EReal.coe_sub, Ideal.exp_coe, ← Real.exp_add, sub_eq_add_neg]
  choose e h0 h1 h2 using he
  have hpos : 0 < ∑ t, e t := by
    refine Finset.sum_pos' (fun t _ => h0 t) ⟨t₀, Finset.mem_univ _, ?_⟩
    have := h1 t₀
    rw [hr₀, Ideal.exp_coe, EReal.coe_eq_coe_iff] at this
    rw [← this]
    exact Real.exp_pos _
  have hk : Real.exp (-μ) ≠ 0 := (Real.exp_pos _).ne'
  unfold Spec.softmaxMix
  simp only [hμ, h1, h2, sum_coe]
  rw [Ideal.div_coe hpos.ne', sum_mul_real _ _ _ (by positivity)]
  refine Finset.sum_congr rfl fun t _ => ?_
  rw [← Finset.sum_mul, Ideal.div_coe (mul_ne_zero hpos.ne' hk), ← EReal.coe_mul, mul_right_comm, ← EReal.coe_mul]
  congr 2
  field_simp

/-- The box features in the two forms. -/
theorem boxes_eq (len : ℕ) (hlen : 0 < len) (h : Fin 512 → Fin 256 → EReal) (Wq Wk Wv Wo : Fin 256 → Fin 256 → EReal)
    (hh : ∀ i d, ∃ r : ℝ, h i d = r) (hq : ∀ c d, ∃ r : ℝ, Wq c d = r) (hk : ∀ c d, ∃ r : ℝ, Wk c d = r) :
    Spec.boxOnce len h Wq Wk Wv Wo = Spec.boxSoftmax len h Wq Wk Wv Wo := by
  funext i d
  unfold Spec.boxOnce Spec.boxSoftmax
  refine congrArg (fun A => Spec.box h (Spec.byHead A) Wo i d) (funext fun n => funext fun j => ?_)
  choose q hq' using fun r c => real_sum Finset.univ (h r) (fun x => Wq x c) (hh r) (fun x => hq x c)
  choose k hk' using fun r c => real_sum Finset.univ (h r) (fun x => Wk x c) (hh r) (fun x => hk x c)
  have hq'' : ∀ r c, Spec.lin h Wq r c = q r c := hq'
  have hk'' : ∀ r c, Spec.lin h Wk r c = k r c := hk'
  have hs : ∀ t, Spec.score (Spec.lin h Wq) (Spec.lin h Wk) n i t
      = ((∑ c : Fin 64, q i (Spec.col n c) * k t (Spec.col n c) : ℝ) : EReal) := fun t => by
    simp only [Spec.score, hq'', hk'', ← EReal.coe_mul, sum_coe]
  have h8 : Ideal.ofBits .f32 0x3E000000#32 = ((1 / 8 : ℝ) : EReal) := by
    simp [Ideal.ofBits, Ideal.ieee]
    rw [← EReal.coe_mul]
    norm_num
  have hs8 : ∀ t, Spec.score (fun r c => Spec.lin h Wq r c * Ideal.ofBits .f32 0x3E000000#32) (Spec.lin h Wk) n i t
      = (((∑ c : Fin 64, q i (Spec.col n c) * k t (Spec.col n c)) * (1 / 8) : ℝ) : EReal) := fun t => by
    simp only [Spec.score, hq'', hk'', h8, ← EReal.coe_mul, sum_coe, Finset.sum_mul]
    refine congrArg _ (Finset.sum_congr rfl fun c _ => ?_)
    ring
  have hl : ∀ t, Spec.score (fun r c => Spec.lin h Wq r c * Ideal.ofBits .f32 0x3E000000#32) (Spec.lin h Wk) n i t
      + (if t.val < len then 0 else ⊥) = Spec.logits len (Spec.lin h Wq) (Spec.lin h Wk) n i t := fun t => by
    unfold Spec.logits
    split
    · rw [add_zero, hs8, hs, Ideal.div_coe (by norm_num), ← EReal.coe_mul]
    · exact EReal.add_bot _
  unfold Spec.mixOnce
  simp only [hl]
  refine mix_eq _ _ (fun t => ?_) 0 ?_
  · unfold Spec.logits
    split
    · exact Or.inr ⟨_, by rw [hs, Ideal.div_coe (by norm_num), ← EReal.coe_mul]⟩
    · exact Or.inl rfl
  · unfold Spec.logits
    rw [if_pos (by simpa using hlen), hs, Ideal.div_coe (by norm_num), ← EReal.coe_mul]
    exact ⟨_, rfl⟩

/-- A token's embedding is real if what it is computed from is. -/
theorem real_embed (f : Fin 256 → EReal) (x : Fin 3 → EReal) (W : Fin 256 → Fin 256 → EReal) (b : Fin 256 → EReal)
    (P : Fin 3 → Fin 256 → EReal) (pb : Fin 256 → EReal) (hf : ∀ c, ∃ r : ℝ, f c = r) (hx : ∀ c, ∃ r : ℝ, x c = r)
    (hW : ∀ c d, ∃ r : ℝ, W c d = r) (hb : ∀ d, ∃ r : ℝ, b d = r) (hP : ∀ c d, ∃ r : ℝ, P c d = r)
    (hpb : ∀ d, ∃ r : ℝ, pb d = r) (d : Fin 256) : ∃ r : ℝ, Spec.embed f x W b P pb d = r := by
  obtain ⟨u, hu⟩ := real_sum Finset.univ f (fun c => W c d) hf (fun c => hW c d)
  obtain ⟨w, hw⟩ := real_sum Finset.univ x (fun c => P c d) hx (fun c => hP c d)
  obtain ⟨β, hβ⟩ := hb d
  obtain ⟨γ, hγ⟩ := hpb d
  unfold Spec.embed
  rw [hu, hw, hβ, hγ, ← EReal.coe_add, ← EReal.coe_zero, ← EReal.coe_strictMono.monotone.map_max, ← EReal.coe_add, ← EReal.coe_add]
  exact ⟨_, rfl⟩

/-- So are the hidden rows. -/
theorem real_hidden (s e : ℕ) (tok : Fin 4096 → Fin 256 → EReal) (pb : Fin 256 → EReal)
    (ht : ∀ t d, ∃ r : ℝ, tok t d = r) (hpb : ∀ d, ∃ r : ℝ, pb d = r) (i : Fin 512) (d : Fin 256) :
    ∃ r : ℝ, Spec.hidden s e tok pb i d = r := by
  unfold Spec.hidden
  split
  · exact ht _ _
  · exact hpb _

end Cert.Attention

end
-- ==== Proof.Meet.lean ====
/- The two programs' results meet: the reference's, written with the words the kernel's are written with, and the two
   forms of the attention equal on the admitted inputs. -/
module

public import proofs.«01_k».proof.Proof.KernelIdeal.Results
public import proofs.«01_k».proof.Proof.ReferenceIdeal.Results
public import proofs.«01_k».proof.Proof.Selected
public import proofs.«01_k».proof.Proof.Attention

@[expose] public section

noncomputable section

namespace Cert.Meet

open Cert.ReferenceIdeal Cert.ReferenceIdeal.Gen Cert.ReferenceIdeal.Value
open Cert.KernelIdeal.Box (rows vec)
open Cert.KernelIdeal.Results (hid len)
open Idealize.ShloMosaic Idealize.ShloMosaic.StableHlo

section Reference

variable (V0 : Valuation τ sig (Elt Ideal)) (a0 : FVec Ideal S4096x256 .f32) (a1 : FVec Ideal S4096x3 .f32) (a2 : IVec S4096 32)
  (a3 : IVec S17 32) (a4 : FVec Ideal S256x256 .f32) (a5 : FVec Ideal S256 .f32) (a6 : FVec Ideal S3x256 .f32)
  (a7 : FVec Ideal S256 .f32) (a8 a9 a10 a11 : FVec Ideal S256x256 .f32) (a12 : FVec Ideal S256x18 .f32)
  (a13 : FVec Ideal S18 .f32) (a14 : FVec Ideal S256x6 .f32) (a15 : FVec Ideal S6 .f32)

/-- The reference's arguments, one by one. -/
structure Args : Prop where
  e0 : V0 (Proc.devRef .tc main_arg0) = a0
  e1 : V0 (Proc.devRef .tc main_arg1) = a1
  e2 : V0 (Proc.devRef .tc main_arg2) = a2
  e3 : V0 (Proc.devRef .tc main_arg3) = a3
  e4 : V0 (Proc.devRef .tc main_arg4) = a4
  e5 : V0 (Proc.devRef .tc main_arg5) = a5
  e6 : V0 (Proc.devRef .tc main_arg6) = a6
  e7 : V0 (Proc.devRef .tc main_arg7) = a7
  e8 : V0 (Proc.devRef .tc main_arg8) = a8
  e9 : V0 (Proc.devRef .tc main_arg9) = a9
  e10 : V0 (Proc.devRef .tc main_arg10) = a10
  e11 : V0 (Proc.devRef .tc main_arg11) = a11
  e12 : V0 (Proc.devRef .tc main_arg12) = a12
  e13 : V0 (Proc.devRef .tc main_arg13) = a13
  e14 : V0 (Proc.devRef .tc main_arg14) = a14
  e15 : V0 (Proc.devRef .tc main_arg15) = a15

variable {V0 a0 a1 a2 a3 a4 a5 a6 a7 a8 a9 a10 a11 a12 a13 a14 a15}
variable (e : Args V0 a0 a1 a2 a3 a4 a5 a6 a7 a8 a9 a10 a11 a12 a13 a14 a15) (h : Offsets.Rising a3) (hk : ∀ n, a2 n ≠ 0#32)

include e h hk

/-- The box features of a row of a batch that holds a token. -/
theorem boxes (b : Fin 16) (hb : (a3 (ix1 b.castSucc)).toNat < (a3 (ix1 b.succ)).toNat) (i : Fin 512) : Softmax.batch (res_main_v108 V0) b i
    = Spec.boxSoftmax (len a3 b) (hid a0 a1 a3 a4 a5 a6 a7 b) (rows a8) (rows a9) (rows a10) (rows a11) i := by
  obtain ⟨rfl, rfl, rfl, rfl, rfl, rfl, rfl, rfl, rfl, rfl, rfl, rfl, rfl, rfl, rfl, rfl⟩ := e
  exact funext fun d => Results.boxes_spec h hk b hb i d

theorem coords (b : Fin 16) (hb : (a3 (ix1 b.castSucc)).toNat < (a3 (ix1 b.succ)).toNat) (i : Fin 512) (j : Fin 6) :
    Softmax.coords (res_main_v108 V0) (V0 (Proc.devRef .tc main_arg14)) (V0 (Proc.devRef .tc main_arg15)) (ix3 b i j)
      = Spec.out (Spec.boxSoftmax (len a3 b) (hid a0 a1 a3 a4 a5 a6 a7 b) (rows a8) (rows a9) (rows a10) (rows a11) i) (rows a14) (vec a15) j := by
  rw [Softmax.coords_apply, boxes e h hk b hb, e.e14, e.e15]
  rfl

theorem classes (b : Fin 16) (hb : (a3 (ix1 b.castSucc)).toNat < (a3 (ix1 b.succ)).toNat) (i : Fin 512) (j : Fin 18) :
    Softmax.classes (res_main_v108 V0) (V0 (Proc.devRef .tc main_arg12)) (V0 (Proc.devRef .tc main_arg13)) (ix3 b i j)
      = Spec.out (Spec.boxSoftmax (len a3 b) (hid a0 a1 a3 a4 a5 a6 a7 b) (rows a8) (rows a9) (rows a10) (rows a11) i) (rows a12) (vec a13) j := by
  rw [Softmax.classes_apply, boxes e h hk b hb, e.e12, e.e13]
  rfl

end Reference

/-- On the admitted inputs, and in a batch that holds a token, the two forms of the box features agree. -/
theorem forms [Cert.Pre_inputs_ok.Facts] {a0 a1 a2 a3 a4 a5 a6 a7 a8 a9} (h : Decode.Ok a0 a1 a2 a3 a4 a5 a6 a7 a8 a9)
    (Wv Wo : Fin 256 → Fin 256 → EReal) (b : Fin 16) (hb : (a3 (ix1 b.castSucc)).toNat < (a3 (ix1 b.succ)).toNat) :
    Spec.boxOnce (len a3 b) (hid a0 a1 a3 a4 a5 a6 a7 b) (rows a8) (rows a9) Wv Wo
      = Spec.boxSoftmax (len a3 b) (hid a0 a1 a3 a4 a5 a6 a7 b) (rows a8) (rows a9) Wv Wo := by
  have hpb : ∀ d, ∃ r : ℝ, vec a7 d = r := fun d => h.bpos _
  refine Attention.boxes_eq _ (by unfold len; omega) _ _ _ _ _ (fun i d => ?_) (fun c d => h.wq _) (fun c d => h.wk _)
  exact Attention.real_hidden _ _ _ _ (fun t d => Attention.real_embed _ _ _ _ _ _ (fun c => h.flat _) (fun c => h.xyz _)
    (fun c d => h.wout _) (fun d => h.bout _) (fun c d => h.wpos _) hpb d) hpb i d

end Cert.Meet

end
-- ==== Proof.Admits.lean ====
/- The shape relations that the precondition of the equation and the mask of the results state. -/
module

public import proofs.«01_k».proof.Pre_inputs_ok
public import proofs.«01_k».proof.On_nonempty

@[expose] public section

namespace Cert.Admits

open Idealize.ShloMosaic

instance inputs_ok : Cert.Pre_inputs_ok.Facts where
  slices_S17_S1_0 := by decide
  bcast_S_S1 := by decide
  slices_S17_S1_16 := by decide
  slices_S17_S16_0 := by decide
  slices_S17_S16_1 := by decide
  bcast_S_S4096 := by decide
  bcast_S_S4096x256 := by decide
  bcast_S_S4096x3 := by decide
  bcast_S_S256x256 := by decide
  bcast_S_S256 := by decide
  bcast_S_S3x256 := by decide

instance nonempty : Cert.On_nonempty.Facts where
  slices_S17_S16_0 := by decide
  slices_S17_S16_1 := by decide
  bcast_S16_S16x1x1_0 := by decide
  bcast_S16x1x1_S16x512x6_0_1_2 := by decide
  bcast_S16x1x1_S16x512x18_0_1_2 := by decide

end Cert.Admits
-- ==== Proof.Equation.lean ====
/- The equation: where the mask selects an element, the kernel and the reference leave the same number there. -/
module

public import proofs.«01_k».proof.Proof.Meet
public import proofs.«01_k».proof.Proof.Admits
public import proofs.«01_k».proof.Proof.Gen.KernelIdeal
public import proofs.«01_k».proof.Proof.Gen.ReferenceIdeal
public import Idealize.ShloMosaic.Lib.Claim

@[expose] public section

noncomputable section

namespace Cert.Equation

open Idealize.ShloMosaic Idealize.SL.Sem

/-- What `inputs_ok` says of the kernel's arguments on device `c`. -/
theorem admitted (m : (ℓ : Loc Cert.KernelIdeal.nD Cert.KernelIdeal.τ Cert.KernelIdeal.sig) → Buf (Elt Ideal) ℓ)
    (h : Cert.Pre_KernelIdeal_inputs_ok m) (c : Dev Cert.KernelIdeal.nD) :
    Decode.Ok (KernelIdeal.Results.arg m c KernelIdeal.main_arg0) (KernelIdeal.Results.arg m c KernelIdeal.main_arg1)
      (KernelIdeal.Results.arg m c KernelIdeal.main_arg2) (KernelIdeal.Results.arg m c KernelIdeal.main_arg3)
      (KernelIdeal.Results.arg m c KernelIdeal.main_arg4) (KernelIdeal.Results.arg m c KernelIdeal.main_arg5)
      (KernelIdeal.Results.arg m c KernelIdeal.main_arg6) (KernelIdeal.Results.arg m c KernelIdeal.main_arg7)
      (KernelIdeal.Results.arg m c KernelIdeal.main_arg8) (KernelIdeal.Results.arg m c KernelIdeal.main_arg9) :=
  Decode.ok _ _ _ _ _ _ _ _ _ _ _ _ _ _ _ _ (h c)

/-- The offsets that the kernel reads are in range. -/
theorem offsets (m : (ℓ : Loc Cert.KernelIdeal.nD Cert.KernelIdeal.τ Cert.KernelIdeal.sig) → Buf (Elt Ideal) ℓ)
    (h : Cert.Pre_KernelIdeal_inputs_ok m) (c : Dev Cert.KernelIdeal.nD) (t : Fin Cert.KernelIdeal.cfg0.N)
    (y : Cert.KernelIdeal.S17.Idx) : BitVec.toNat (Cert.KernelIdeal.Gen.iblk m c 0 t y : BitVec 32) ≤ 4096 := by
  unfold Cert.KernelIdeal.Gen.iblk
  rw [View.read_apply, cast_eq]
  exact (admitted m h c).le _

theorem equation : Cert.algebraic_KernelIdeal_ReferenceIdeal_on_nonempty_pre_inputs_ok := by
  intro m g m' g' h hm'
  have hA : ∀ c : Dev Cert.KernelIdeal.nD, Meet.Args (StableHlo.launchContents m' c)
      (KernelIdeal.Results.arg m c KernelIdeal.main_arg0) (KernelIdeal.Results.arg m c KernelIdeal.main_arg1)
      (KernelIdeal.Results.arg m c KernelIdeal.main_arg2) (KernelIdeal.Results.arg m c KernelIdeal.main_arg3)
      (KernelIdeal.Results.arg m c KernelIdeal.main_arg4) (KernelIdeal.Results.arg m c KernelIdeal.main_arg5)
      (KernelIdeal.Results.arg m c KernelIdeal.main_arg6) (KernelIdeal.Results.arg m c KernelIdeal.main_arg7)
      (KernelIdeal.Results.arg m c KernelIdeal.main_arg8) (KernelIdeal.Results.arg m c KernelIdeal.main_arg9)
      (KernelIdeal.Results.arg m c KernelIdeal.main_arg10) (KernelIdeal.Results.arg m c KernelIdeal.main_arg11)
      (KernelIdeal.Results.arg m c KernelIdeal.main_arg12) (KernelIdeal.Results.arg m c KernelIdeal.main_arg13)
      (KernelIdeal.Results.arg m c KernelIdeal.main_arg14) (KernelIdeal.Results.arg m c KernelIdeal.main_arg15) := fun c => by
    obtain ⟨h0, h1, h2, h3, h4, h5, h6, h7, h8, h9, h10, h11, h12, h13, h14, h15⟩ := hm' c
    exact ⟨h0, h1, h2, h3, h4, h5, h6, h7, h8, h9, h10, h11, h12, h13, h14, h15⟩
  let V (c : Dev Cert.KernelIdeal.nD) : Valuation Cert.ReferenceIdeal.τ Cert.ReferenceIdeal.sig (Elt Ideal) :=
    StableHlo.launchContents m' c
  refine ⟨fun c => ReferenceIdeal.Softmax.coords (ReferenceIdeal.Value.res_main_v108 (V c))
      (V c (Proc.devRef .tc ReferenceIdeal.main_arg14)) (V c (Proc.devRef .tc ReferenceIdeal.main_arg15)),
    fun c => ReferenceIdeal.Softmax.classes (ReferenceIdeal.Value.res_main_v108 (V c))
      (V c (Proc.devRef .tc ReferenceIdeal.main_arg12)) (V c (Proc.devRef .tc ReferenceIdeal.main_arg13)), ?_, ?_⟩
  · have hr := θ_run_and (Cert.KernelIdeal.Run.run_main m g (offsets m h)) (Cert.KernelIdeal.Run.unchanged m g (offsets m h))
    refine (θ_run Cert.KernelIdeal.defs _ _).mono (fun r hr c => ⟨fun i hi => ?_, fun i hi => ?_, hr.2 c⟩) hr
    · obtain ⟨b, p, j, rfl⟩ : ∃ (b : Fin 16) (p : Fin 512) (j : Fin 6), i = ix3 b p j := ⟨i 0, i 1, i 2, ValueIdx.eq_ix3 i⟩
      have hb := Decode.coords_selected _ _ _ _ _ _ _ _ _ _ _ _ _ _ _ _ (admitted m h c).le b p j hi
      refine (Cert.KernelIdeal.Results.coords_eq m (offsets m h) r hr.1 c b ⟨hb, (admitted m h c).le _⟩ p j).trans ?_
      rw [Meet.forms (admitted m h c) _ _ b hb]
      exact (Meet.coords (hA c) (admitted m h c).rising (admitted m h c).keys b hb p j).symm
    · obtain ⟨b, p, j, rfl⟩ : ∃ (b : Fin 16) (p : Fin 512) (j : Fin 18), i = ix3 b p j := ⟨i 0, i 1, i 2, ValueIdx.eq_ix3 i⟩
      have hb := Decode.classes_selected _ _ _ _ _ _ _ _ _ _ _ _ _ _ _ _ (admitted m h c).le b p j hi
      refine (Cert.KernelIdeal.Results.classes_eq m (offsets m h) r hr.1 c b ⟨hb, (admitted m h c).le _⟩ p j).trans ?_
      rw [Meet.forms (admitted m h c) _ _ b hb]
      exact (Meet.classes (hA c) (admitted m h c).rising (admitted m h c).keys b hb p j).symm
  · exact (θ_run Cert.ReferenceIdeal.defs _ _).mono (fun r hr c => ⟨fun i _ => congrFun (hr c).1 i,
      fun i _ => congrFun (hr c).2.1 i, (hr c).2.2⟩) (Cert.ReferenceIdeal.Value.run (F := Ideal) m' g')

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_offsets_in_range
public import proofs.«01_k».proof.Proof.Range
public import proofs.«01_k».proof.Proof.Kernel.Run
public import proofs.«01_k».proof.Proof.KernelIdeal.Run
public import proofs.«01_k».proof.Proof.Equation

@[expose] public section

noncomputable section

namespace Cert.Proof

open Idealize.ShloMosaic Idealize.SL.Sem

/-- The kernel ends with its arguments unchanged and every counter at zero. -/
theorem frame_p : Cert.quiescent_Kernel := fun m ρ h =>
  Cert.Kernel.Run.frame m ρ fun c t y => by
    unfold Cert.Kernel.Gen.iblk
    rw [View.read_apply, cast_eq]
    exact Decode.range _ _ _ _ _ _ _ _ _ _ _ _ _ _ _ _ (h c) _

/-- So does its idealization. -/
theorem frame_pi : Cert.quiescent_KernelIdeal := fun m ρ h =>
  Cert.KernelIdeal.Run.frame m ρ fun c t y => by
    unfold Cert.KernelIdeal.Gen.iblk
    rw [View.read_apply, cast_eq]
    exact Decode.range _ _ _ _ _ _ _ _ _ _ _ _ _ _ _ _ (h c) _

/-- So it does on the inputs that the equation admits. -/
theorem frame_pi_admitted : Cert.quiescent_KernelIdeal_pre_inputs_ok := fun m ρ h =>
  Cert.KernelIdeal.Run.frame m ρ (Equation.offsets m h)

/-- The reference ends with its arguments unchanged; it has no counter. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ri_admitted : Cert.quiescent_ReferenceIdeal_pre_inputs_ok := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The bias of a padded key is renamed, and stands for minus infinity. -/
theorem preserves : Cert.preserves_Kernel_KernelIdeal :=
  IdealRules.named_const.statement Cert.KernelIdeal.κ "mask" .f32 0xC2200000#32 ⊥ rfl

theorem claim : Cert.Claim :=
  ⟨inferInstance, inferInstance, inferInstance, inferInstance, inferInstance, inferInstance, frame_p, frame_pi,
    frame_pi_admitted, frame_ri, frame_ri_admitted, preserves, Equation.equation⟩

end Cert.Proof

end
